-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_quantile_tables [hPre_quantile_tables : Cert.Pre_quantile_tables.Facts] (m : (ℓ : Loc Cert.KernelIdeal.nD Cert.KernelIdeal.τ Cert.KernelIdeal.sig) → Buf (Elt Ideal) ℓ) : Prop :=
  ∀ c : Dev Cert.KernelIdeal.nD,
    (Cert.Pre_quantile_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_quantile_tables [hPre_quantile_tables : Cert.Pre_quantile_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_quantile_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_quantile_tables [hKernelIdeal : Cert.KernelIdeal.Facts] [hPre_quantile_tables : Cert.Pre_quantile_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_quantile_tables m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_quantile_tables [hReferenceIdeal : Cert.ReferenceIdeal.Facts] [hPre_quantile_tables : Cert.Pre_quantile_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_quantile_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv" .f32 0x3A833405#32 ((999⁻¹ : ℝ) : EReal)

def algebraic_KernelIdeal_ReferenceIdeal_pre_quantile_tables [hKernelIdeal : Cert.KernelIdeal.Facts] [hReferenceIdeal : Cert.ReferenceIdeal.Facts] [hPre_quantile_tables : Cert.Pre_quantile_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_quantile_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_quantile_tables : Cert.Pre_quantile_tables.Facts),
    quiescent_Kernel (hKernel := hKernel)
    ∧ quiescent_KernelIdeal (hKernelIdeal := hKernelIdeal)
    ∧ quiescent_KernelIdeal_pre_quantile_tables (hKernelIdeal := hKernelIdeal) (hPre_quantile_tables := hPre_quantile_tables)
    ∧ quiescent_ReferenceIdeal (hReferenceIdeal := hReferenceIdeal)
    ∧ quiescent_ReferenceIdeal_pre_quantile_tables (hReferenceIdeal := hReferenceIdeal) (hPre_quantile_tables := hPre_quantile_tables)
    ∧ preserves_Kernel_KernelIdeal
    ∧ algebraic_KernelIdeal_ReferenceIdeal_pre_quantile_tables (hKernelIdeal := hKernelIdeal) (hReferenceIdeal := hReferenceIdeal) (hPre_quantile_tables := hPre_quantile_tables)
-- ==== Pre_quantile_tables.lean ====
abbrev S262144x64 : Shape := ⟨2, ![262144, 64]⟩
abbrev S64x1000 : Shape := ⟨2, ![64, 1000]⟩
abbrev S1000 : Shape := ⟨1, ![1000]⟩
abbrev S_ : Shape := ⟨0, ![]⟩
abbrev S64x999 : Shape := ⟨2, ![64, 999]⟩

class Facts : Prop where
  bcast_S_S1000 : S_.BroadcastsInDim S1000 (![] : Fin 0 → Fin S1000.rank)
  slices_S64x1000_S64x999_0_0 : S64x1000.Slices ![0, 0] S64x999
  slices_S64x1000_S64x999_0_1 : S64x1000.Slices ![0, 1] S64x999
  reducesTo_S64x999_S_d0_1 : S64x999.ReducesTo [0, 1] S_
  h_S_ : 0 < S_.numel
  reducesTo_S1000_S_d0 : S1000.ReducesTo [0] S_

variable [Facts]

def fn {F : FTy → Type} [FloatOps F] (main_arg0 : FVec F S262144x64 .f32) (main_arg1 : FVec F S64x1000 .f32) (main_arg2 : FVec F S1000 .f32) : IVec S_ 1 :=
  let main_v0 : IVec S1000 32 := iotaInDim S1000 32 0
  let main_v1 : FVec F S1000 .f32 := sitofp .f32 main_v0
  let main_cst : FVec F S_ .f32 := constant S_ .f32 0x4479C000#32
  let main_v2 : FVec F S1000 .f32 := broadcastInDim S1000 ![] bcast_S_S1000 main_cst
  let main_v3 : FVec F S1000 .f32 := Host.divf main_v1 main_v2
  let main_v4 : FVec F S64x999 .f32 := (extractStridedSlice S64x999 ![0, 0] · slices_S64x1000_S64x999_0_0) main_arg1
  let main_v5 : FVec F S64x999 .f32 := (extractStridedSlice S64x999 ![0, 1] · slices_S64x1000_S64x999_0_1) main_arg1
  let main_v6 : IVec S64x999 1 := cmpf .ole main_v4 main_v5
  let main_c : IVec S_ 1 := constantI S_ 1 1#1
  let main_v7 : IVec S_ 1 := (fun x v => Host.reduce IntOp.andi x v reducesTo_S64x999_S_d0_1 h_S_) main_v6 main_c
  let main_v8 : IVec S1000 1 := cmpf .oeq main_arg2 main_v3
  let main_c_0 : IVec S_ 1 := constantI S_ 1 1#1
  let main_v9 : IVec S_ 1 := (fun x v => Host.reduce IntOp.andi x v reducesTo_S1000_S_d0 h_S_) main_v8 main_c_0
  let main_v10 : IVec S_ 1 := andi main_v7 main_v9
  main_v10
-- ==== Kernel.lean ====
abbrev S262144x64 : Shape := ⟨2, ![262144, 64]⟩
abbrev S64x1000 : Shape := ⟨2, ![64, 1000]⟩
abbrev S1000 : Shape := ⟨1, ![1000]⟩
abbrev S16777216 : Shape := ⟨1, ![16777216]⟩
abbrev S64000 : Shape := ⟨1, ![64000]⟩
abbrev S8192 : Shape := ⟨1, ![8192]⟩
abbrev S_ : Shape := ⟨0, ![]⟩
abbrev S16 : Shape := ⟨1, ![16]⟩

abbrev nBuf : Table → Nat
  | .hbm => 7
  | .local .scVector .vmem => 3
  | _ => 0

abbrev bufTy : (tb : Table) → Fin (nBuf tb) → BufTy
  | .hbm, ⟨0, _⟩ => ⟨S262144x64, .f32⟩
  | .hbm, ⟨1, _⟩ => ⟨S64x1000, .f32⟩
  | .hbm, ⟨2, _⟩ => ⟨S1000, .f32⟩
  | .hbm, ⟨3, _⟩ => ⟨S16777216, .f32⟩
  | .hbm, ⟨4, _⟩ => ⟨S64000, .f32⟩
  | .hbm, ⟨5, _⟩ => ⟨S16777216, .f32⟩
  | .hbm, ⟨6, _⟩ => ⟨S262144x64, .f32⟩
  | .local .scVector .vmem, ⟨0, _⟩ => ⟨S64000, .f32⟩
  | .local .scVector .vmem, ⟨1, _⟩ => ⟨S8192, .f32⟩
  | .local .scVector .vmem, ⟨2, _⟩ => ⟨S8192, .f32⟩
  | _, _ => ⟨S262144x64, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scv : Ref sig .scVector := ⟨.hbm, 3, rfl⟩
abbrev main_v1_scv : Ref sig .scVector := ⟨.hbm, 4, rfl⟩
abbrev main_v2_scv : Ref sig .scVector := ⟨.hbm, 5, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_9 : BitVec 32 := 0#32
  let c64_i32 : BitVec 32 := 64#32
  let v36 : BitVec 32 := Scalar.addi c0_i32_9 c64_i32
  let c1_i32_10 : BitVec 32 := 1#32
  ⟨c0_i32_9, v36, c1_i32_10⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_13 : BitVec 32 := 0#32
  let c0_i32_9 : BitVec 32 := 0#32
  let c1_i32_10 : BitVec 32 := 1#32
  let arg10 : BitVec 32 := Scf.iv c0_i32_9 c1_i32_10 k0_t1
  let c1_i32_12 : BitVec 32 := 1#32
  let v37 : BitVec 32 := Scalar.muli arg10 c1_i32_12
  let v38 : BitVec 32 := Scalar.addi c0_i32_13 v37
  let c8192_i32 : BitVec 32 := 8192#32
  let v39 : BitVec 32 := Scalar.muli v38 c8192_i32
  let v40 : BitVec 32 := Scalar.addi v2 v39
  ![v40.toNat]
@[reducible] def k0_t2_loop : Scf.Loop 32 :=
  let c0_i32_14 : BitVec 32 := 0#32
  let c128_i32 : BitVec 32 := 128#32
  let v41 : BitVec 32 := Scalar.addi c0_i32_14 c128_i32
  let c1_i32_15 : BitVec 32 := 1#32
  ⟨c0_i32_14, v41, c1_i32_15⟩
def k0_off2 (k0_t2 : Fin k0_t2_loop.trips) : Fin 1 → Nat :=
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v42 : BitVec 32 := Scalar.muli arg11 c1_i32_17
  let v43 : BitVec 32 := Scalar.addi c0_i32_18 v42
  let c64_i32_19 : BitVec 32 := 64#32
  let v44 : BitVec 32 := Scalar.muli v43 c64_i32_19
  let c0_i32_20 : BitVec 32 := 0#32
  let v45 : BitVec 32 := Scalar.addi v44 c0_i32_20
  let v46 : Index := Scalar.indexCast v45
  ![v46.toNat]

def k0_chk1 (v49 : IVec S16 32) : Prop :=
  (∀ a x, ((![v49] : Fin 1 → IVec S16 32) a x).toNat < S64000.size a)
theorem k0_idx1_inb : ∀ (v49 : IVec S16 32) (k0_hw1 : k0_chk1 v49), ∀ a x, ((![v49] : Fin 1 → IVec S16 32) a x).toNat < S64000.size a := fun v49 k0_hw1 => k0_hw1

def k0_chk2 (v55 : IVec S16 32) : Prop :=
  (∀ a x, ((![v55] : Fin 1 → IVec S16 32) a x).toNat < S64000.size a)
theorem k0_idx2_inb : ∀ (v55 : IVec S16 32) (k0_hw2 : k0_chk2 v55), ∀ a x, ((![v55] : Fin 1 → IVec S16 32) a x).toNat < S64000.size a := fun v55 k0_hw2 => k0_hw2

def k0_chk3 (v61 : IVec S16 32) : Prop :=
  (∀ a x, ((![v61] : Fin 1 → IVec S16 32) a x).toNat < S64000.size a)
theorem k0_idx3_inb : ∀ (v61 : IVec S16 32) (k0_hw3 : k0_chk3 v61), ∀ a x, ((![v61] : Fin 1 → IVec S16 32) a x).toNat < S64000.size a := fun v61 k0_hw3 => k0_hw3

def k0_chk4 (v67 : IVec S16 32) : Prop :=
  (∀ a x, ((![v67] : Fin 1 → IVec S16 32) a x).toNat < S64000.size a)
theorem k0_idx4_inb : ∀ (v67 : IVec S16 32) (k0_hw4 : k0_chk4 v67), ∀ a x, ((![v67] : Fin 1 → IVec S16 32) a x).toNat < S64000.size a := fun v67 k0_hw4 => k0_hw4

def k0_chk5 (v73 : IVec S16 32) : Prop :=
  (∀ a x, ((![v73] : Fin 1 → IVec S16 32) a x).toNat < S64000.size a)
theorem k0_idx5_inb : ∀ (v73 : IVec S16 32) (k0_hw5 : k0_chk5 v73), ∀ a x, ((![v73] : Fin 1 → IVec S16 32) a x).toNat < S64000.size a := fun v73 k0_hw5 => k0_hw5

def k0_chk6 (v79 : IVec S16 32) : Prop :=
  (∀ a x, ((![v79] : Fin 1 → IVec S16 32) a x).toNat < S64000.size a)
theorem k0_idx6_inb : ∀ (v79 : IVec S16 32) (k0_hw6 : k0_chk6 v79), ∀ a x, ((![v79] : Fin 1 → IVec S16 32) a x).toNat < S64000.size a := fun v79 k0_hw6 => k0_hw6

def k0_chk7 (v85 : IVec S16 32) : Prop :=
  (∀ a x, ((![v85] : Fin 1 → IVec S16 32) a x).toNat < S64000.size a)
theorem k0_idx7_inb : ∀ (v85 : IVec S16 32) (k0_hw7 : k0_chk7 v85), ∀ a x, ((![v85] : Fin 1 → IVec S16 32) a x).toNat < S64000.size a := fun v85 k0_hw7 => k0_hw7

def k0_chk8 (v91 : IVec S16 32) : Prop :=
  (∀ a x, ((![v91] : Fin 1 → IVec S16 32) a x).toNat < S64000.size a)
theorem k0_idx8_inb : ∀ (v91 : IVec S16 32) (k0_hw8 : k0_chk8 v91), ∀ a x, ((![v91] : Fin 1 → IVec S16 32) a x).toNat < S64000.size a := fun v91 k0_hw8 => k0_hw8

def k0_chk9 (v97 : IVec S16 32) : Prop :=
  (∀ a x, ((![v97] : Fin 1 → IVec S16 32) a x).toNat < S64000.size a)
theorem k0_idx9_inb : ∀ (v97 : IVec S16 32) (k0_hw9 : k0_chk9 v97), ∀ a x, ((![v97] : Fin 1 → IVec S16 32) a x).toNat < S64000.size a := fun v97 k0_hw9 => k0_hw9

def k0_chk10 (v103 : IVec S16 32) : Prop :=
  (∀ a x, ((![v103] : Fin 1 → IVec S16 32) a x).toNat < S64000.size a)
theorem k0_idx10_inb : ∀ (v103 : IVec S16 32) (k0_hw10 : k0_chk10 v103), ∀ a x, ((![v103] : Fin 1 → IVec S16 32) a x).toNat < S64000.size a := fun v103 k0_hw10 => k0_hw10

def k0_chk11 (v113 : IVec S16 32) : Prop :=
  (∀ a x, ((![v113] : Fin 1 → IVec S16 32) a x).toNat < S64000.size a)
theorem k0_idx11_inb : ∀ (v113 : IVec S16 32) (k0_hw11 : k0_chk11 v113), ∀ a x, ((![v113] : Fin 1 → IVec S16 32) a x).toNat < S64000.size a := fun v113 k0_hw11 => k0_hw11

def k0_chk12 (v111 : IVec S16 32) : Prop :=
  (∀ a x, ((![v111] : Fin 1 → IVec S16 32) a x).toNat < S64000.size a)
theorem k0_idx12_inb : ∀ (v111 : IVec S16 32) (k0_hw12 : k0_chk12 v111), ∀ a x, ((![v111] : Fin 1 → IVec S16 32) a x).toNat < S64000.size a := fun v111 k0_hw12 => k0_hw12
def k0_off3 (k0_t2 : Fin k0_t2_loop.trips) (c0_i32_36 : BitVec 32) : Fin 1 → Nat :=
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v42 : BitVec 32 := Scalar.muli arg11 c1_i32_17
  let v43 : BitVec 32 := Scalar.addi c0_i32_18 v42
  let c64_i32_19 : BitVec 32 := 64#32
  let v44 : BitVec 32 := Scalar.muli v43 c64_i32_19
  let v137 : BitVec 32 := Scalar.addi v44 c0_i32_36
  let v138 : Index := Scalar.indexCast v137
  ![v138.toNat]

def k0_chk13 (v144 : IVec S16 32) : Prop :=
  (∀ a x, ((![v144] : Fin 1 → IVec S16 32) a x).toNat < S64000.size a)
theorem k0_idx13_inb : ∀ (v144 : IVec S16 32) (k0_hw13 : k0_chk13 v144), ∀ a x, ((![v144] : Fin 1 → IVec S16 32) a x).toNat < S64000.size a := fun v144 k0_hw13 => k0_hw13

def k0_chk14 (v150 : IVec S16 32) : Prop :=
  (∀ a x, ((![v150] : Fin 1 → IVec S16 32) a x).toNat < S64000.size a)
theorem k0_idx14_inb : ∀ (v150 : IVec S16 32) (k0_hw14 : k0_chk14 v150), ∀ a x, ((![v150] : Fin 1 → IVec S16 32) a x).toNat < S64000.size a := fun v150 k0_hw14 => k0_hw14

def k0_chk15 (v156 : IVec S16 32) : Prop :=
  (∀ a x, ((![v156] : Fin 1 → IVec S16 32) a x).toNat < S64000.size a)
theorem k0_idx15_inb : ∀ (v156 : IVec S16 32) (k0_hw15 : k0_chk15 v156), ∀ a x, ((![v156] : Fin 1 → IVec S16 32) a x).toNat < S64000.size a := fun v156 k0_hw15 => k0_hw15

def k0_chk16 (v162 : IVec S16 32) : Prop :=
  (∀ a x, ((![v162] : Fin 1 → IVec S16 32) a x).toNat < S64000.size a)
theorem k0_idx16_inb : ∀ (v162 : IVec S16 32) (k0_hw16 : k0_chk16 v162), ∀ a x, ((![v162] : Fin 1 → IVec S16 32) a x).toNat < S64000.size a := fun v162 k0_hw16 => k0_hw16

def k0_chk17 (v168 : IVec S16 32) : Prop :=
  (∀ a x, ((![v168] : Fin 1 → IVec S16 32) a x).toNat < S64000.size a)
theorem k0_idx17_inb : ∀ (v168 : IVec S16 32) (k0_hw17 : k0_chk17 v168), ∀ a x, ((![v168] : Fin 1 → IVec S16 32) a x).toNat < S64000.size a := fun v168 k0_hw17 => k0_hw17

def k0_chk18 (v174 : IVec S16 32) : Prop :=
  (∀ a x, ((![v174] : Fin 1 → IVec S16 32) a x).toNat < S64000.size a)
theorem k0_idx18_inb : ∀ (v174 : IVec S16 32) (k0_hw18 : k0_chk18 v174), ∀ a x, ((![v174] : Fin 1 → IVec S16 32) a x).toNat < S64000.size a := fun v174 k0_hw18 => k0_hw18

def k0_chk19 (v180 : IVec S16 32) : Prop :=
  (∀ a x, ((![v180] : Fin 1 → IVec S16 32) a x).toNat < S64000.size a)
theorem k0_idx19_inb : ∀ (v180 : IVec S16 32) (k0_hw19 : k0_chk19 v180), ∀ a x, ((![v180] : Fin 1 → IVec S16 32) a x).toNat < S64000.size a := fun v180 k0_hw19 => k0_hw19

def k0_chk20 (v186 : IVec S16 32) : Prop :=
  (∀ a x, ((![v186] : Fin 1 → IVec S16 32) a x).toNat < S64000.size a)
theorem k0_idx20_inb : ∀ (v186 : IVec S16 32) (k0_hw20 : k0_chk20 v186), ∀ a x, ((![v186] : Fin 1 → IVec S16 32) a x).toNat < S64000.size a := fun v186 k0_hw20 => k0_hw20

def k0_chk21 (v192 : IVec S16 32) : Prop :=
  (∀ a x, ((![v192] : Fin 1 → IVec S16 32) a x).toNat < S64000.size a)
theorem k0_idx21_inb : ∀ (v192 : IVec S16 32) (k0_hw21 : k0_chk21 v192), ∀ a x, ((![v192] : Fin 1 → IVec S16 32) a x).toNat < S64000.size a := fun v192 k0_hw21 => k0_hw21

def k0_chk22 (v198 : IVec S16 32) : Prop :=
  (∀ a x, ((![v198] : Fin 1 → IVec S16 32) a x).toNat < S64000.size a)
theorem k0_idx22_inb : ∀ (v198 : IVec S16 32) (k0_hw22 : k0_chk22 v198), ∀ a x, ((![v198] : Fin 1 → IVec S16 32) a x).toNat < S64000.size a := fun v198 k0_hw22 => k0_hw22

def k0_chk23 (v208 : IVec S16 32) : Prop :=
  (∀ a x, ((![v208] : Fin 1 → IVec S16 32) a x).toNat < S64000.size a)
theorem k0_idx23_inb : ∀ (v208 : IVec S16 32) (k0_hw23 : k0_chk23 v208), ∀ a x, ((![v208] : Fin 1 → IVec S16 32) a x).toNat < S64000.size a := fun v208 k0_hw23 => k0_hw23

def k0_chk24 (v206 : IVec S16 32) : Prop :=
  (∀ a x, ((![v206] : Fin 1 → IVec S16 32) a x).toNat < S64000.size a)
theorem k0_idx24_inb : ∀ (v206 : IVec S16 32) (k0_hw24 : k0_chk24 v206), ∀ a x, ((![v206] : Fin 1 → IVec S16 32) a x).toNat < S64000.size a := fun v206 k0_hw24 => k0_hw24
def k0_off4 (k0_t2 : Fin k0_t2_loop.trips) (c16_i32_67 : BitVec 32) : Fin 1 → Nat :=
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v42 : BitVec 32 := Scalar.muli arg11 c1_i32_17
  let v43 : BitVec 32 := Scalar.addi c0_i32_18 v42
  let c64_i32_19 : BitVec 32 := 64#32
  let v44 : BitVec 32 := Scalar.muli v43 c64_i32_19
  let v232 : BitVec 32 := Scalar.addi v44 c16_i32_67
  let v233 : Index := Scalar.indexCast v232
  ![v233.toNat]

def k0_chk25 (v239 : IVec S16 32) : Prop :=
  (∀ a x, ((![v239] : Fin 1 → IVec S16 32) a x).toNat < S64000.size a)
theorem k0_idx25_inb : ∀ (v239 : IVec S16 32) (k0_hw25 : k0_chk25 v239), ∀ a x, ((![v239] : Fin 1 → IVec S16 32) a x).toNat < S64000.size a := fun v239 k0_hw25 => k0_hw25

def k0_chk26 (v245 : IVec S16 32) : Prop :=
  (∀ a x, ((![v245] : Fin 1 → IVec S16 32) a x).toNat < S64000.size a)
theorem k0_idx26_inb : ∀ (v245 : IVec S16 32) (k0_hw26 : k0_chk26 v245), ∀ a x, ((![v245] : Fin 1 → IVec S16 32) a x).toNat < S64000.size a := fun v245 k0_hw26 => k0_hw26

def k0_chk27 (v251 : IVec S16 32) : Prop :=
  (∀ a x, ((![v251] : Fin 1 → IVec S16 32) a x).toNat < S64000.size a)
theorem k0_idx27_inb : ∀ (v251 : IVec S16 32) (k0_hw27 : k0_chk27 v251), ∀ a x, ((![v251] : Fin 1 → IVec S16 32) a x).toNat < S64000.size a := fun v251 k0_hw27 => k0_hw27

def k0_chk28 (v257 : IVec S16 32) : Prop :=
  (∀ a x, ((![v257] : Fin 1 → IVec S16 32) a x).toNat < S64000.size a)
theorem k0_idx28_inb : ∀ (v257 : IVec S16 32) (k0_hw28 : k0_chk28 v257), ∀ a x, ((![v257] : Fin 1 → IVec S16 32) a x).toNat < S64000.size a := fun v257 k0_hw28 => k0_hw28

def k0_chk29 (v263 : IVec S16 32) : Prop :=
  (∀ a x, ((![v263] : Fin 1 → IVec S16 32) a x).toNat < S64000.size a)
theorem k0_idx29_inb : ∀ (v263 : IVec S16 32) (k0_hw29 : k0_chk29 v263), ∀ a x, ((![v263] : Fin 1 → IVec S16 32) a x).toNat < S64000.size a := fun v263 k0_hw29 => k0_hw29

def k0_chk30 (v269 : IVec S16 32) : Prop :=
  (∀ a x, ((![v269] : Fin 1 → IVec S16 32) a x).toNat < S64000.size a)
theorem k0_idx30_inb : ∀ (v269 : IVec S16 32) (k0_hw30 : k0_chk30 v269), ∀ a x, ((![v269] : Fin 1 → IVec S16 32) a x).toNat < S64000.size a := fun v269 k0_hw30 => k0_hw30

def k0_chk31 (v275 : IVec S16 32) : Prop :=
  (∀ a x, ((![v275] : Fin 1 → IVec S16 32) a x).toNat < S64000.size a)
theorem k0_idx31_inb : ∀ (v275 : IVec S16 32) (k0_hw31 : k0_chk31 v275), ∀ a x, ((![v275] : Fin 1 → IVec S16 32) a x).toNat < S64000.size a := fun v275 k0_hw31 => k0_hw31

def k0_chk32 (v281 : IVec S16 32) : Prop :=
  (∀ a x, ((![v281] : Fin 1 → IVec S16 32) a x).toNat < S64000.size a)
theorem k0_idx32_inb : ∀ (v281 : IVec S16 32) (k0_hw32 : k0_chk32 v281), ∀ a x, ((![v281] : Fin 1 → IVec S16 32) a x).toNat < S64000.size a := fun v281 k0_hw32 => k0_hw32

def k0_chk33 (v287 : IVec S16 32) : Prop :=
  (∀ a x, ((![v287] : Fin 1 → IVec S16 32) a x).toNat < S64000.size a)
theorem k0_idx33_inb : ∀ (v287 : IVec S16 32) (k0_hw33 : k0_chk33 v287), ∀ a x, ((![v287] : Fin 1 → IVec S16 32) a x).toNat < S64000.size a := fun v287 k0_hw33 => k0_hw33

def k0_chk34 (v293 : IVec S16 32) : Prop :=
  (∀ a x, ((![v293] : Fin 1 → IVec S16 32) a x).toNat < S64000.size a)
theorem k0_idx34_inb : ∀ (v293 : IVec S16 32) (k0_hw34 : k0_chk34 v293), ∀ a x, ((![v293] : Fin 1 → IVec S16 32) a x).toNat < S64000.size a := fun v293 k0_hw34 => k0_hw34

def k0_chk35 (v303 : IVec S16 32) : Prop :=
  (∀ a x, ((![v303] : Fin 1 → IVec S16 32) a x).toNat < S64000.size a)
theorem k0_idx35_inb : ∀ (v303 : IVec S16 32) (k0_hw35 : k0_chk35 v303), ∀ a x, ((![v303] : Fin 1 → IVec S16 32) a x).toNat < S64000.size a := fun v303 k0_hw35 => k0_hw35

def k0_chk36 (v301 : IVec S16 32) : Prop :=
  (∀ a x, ((![v301] : Fin 1 → IVec S16 32) a x).toNat < S64000.size a)
theorem k0_idx36_inb : ∀ (v301 : IVec S16 32) (k0_hw36 : k0_chk36 v301), ∀ a x, ((![v301] : Fin 1 → IVec S16 32) a x).toNat < S64000.size a := fun v301 k0_hw36 => k0_hw36
def k0_off5 (k0_t2 : Fin k0_t2_loop.trips) (c32_i32_98 : BitVec 32) : Fin 1 → Nat :=
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v42 : BitVec 32 := Scalar.muli arg11 c1_i32_17
  let v43 : BitVec 32 := Scalar.addi c0_i32_18 v42
  let c64_i32_19 : BitVec 32 := 64#32
  let v44 : BitVec 32 := Scalar.muli v43 c64_i32_19
  let v327 : BitVec 32 := Scalar.addi v44 c32_i32_98
  let v328 : Index := Scalar.indexCast v327
  ![v328.toNat]

def k0_chk37 (v334 : IVec S16 32) : Prop :=
  (∀ a x, ((![v334] : Fin 1 → IVec S16 32) a x).toNat < S64000.size a)
theorem k0_idx37_inb : ∀ (v334 : IVec S16 32) (k0_hw37 : k0_chk37 v334), ∀ a x, ((![v334] : Fin 1 → IVec S16 32) a x).toNat < S64000.size a := fun v334 k0_hw37 => k0_hw37

def k0_chk38 (v340 : IVec S16 32) : Prop :=
  (∀ a x, ((![v340] : Fin 1 → IVec S16 32) a x).toNat < S64000.size a)
theorem k0_idx38_inb : ∀ (v340 : IVec S16 32) (k0_hw38 : k0_chk38 v340), ∀ a x, ((![v340] : Fin 1 → IVec S16 32) a x).toNat < S64000.size a := fun v340 k0_hw38 => k0_hw38

def k0_chk39 (v346 : IVec S16 32) : Prop :=
  (∀ a x, ((![v346] : Fin 1 → IVec S16 32) a x).toNat < S64000.size a)
theorem k0_idx39_inb : ∀ (v346 : IVec S16 32) (k0_hw39 : k0_chk39 v346), ∀ a x, ((![v346] : Fin 1 → IVec S16 32) a x).toNat < S64000.size a := fun v346 k0_hw39 => k0_hw39

def k0_chk40 (v352 : IVec S16 32) : Prop :=
  (∀ a x, ((![v352] : Fin 1 → IVec S16 32) a x).toNat < S64000.size a)
theorem k0_idx40_inb : ∀ (v352 : IVec S16 32) (k0_hw40 : k0_chk40 v352), ∀ a x, ((![v352] : Fin 1 → IVec S16 32) a x).toNat < S64000.size a := fun v352 k0_hw40 => k0_hw40

def k0_chk41 (v358 : IVec S16 32) : Prop :=
  (∀ a x, ((![v358] : Fin 1 → IVec S16 32) a x).toNat < S64000.size a)
theorem k0_idx41_inb : ∀ (v358 : IVec S16 32) (k0_hw41 : k0_chk41 v358), ∀ a x, ((![v358] : Fin 1 → IVec S16 32) a x).toNat < S64000.size a := fun v358 k0_hw41 => k0_hw41

def k0_chk42 (v364 : IVec S16 32) : Prop :=
  (∀ a x, ((![v364] : Fin 1 → IVec S16 32) a x).toNat < S64000.size a)
theorem k0_idx42_inb : ∀ (v364 : IVec S16 32) (k0_hw42 : k0_chk42 v364), ∀ a x, ((![v364] : Fin 1 → IVec S16 32) a x).toNat < S64000.size a := fun v364 k0_hw42 => k0_hw42

def k0_chk43 (v370 : IVec S16 32) : Prop :=
  (∀ a x, ((![v370] : Fin 1 → IVec S16 32) a x).toNat < S64000.size a)
theorem k0_idx43_inb : ∀ (v370 : IVec S16 32) (k0_hw43 : k0_chk43 v370), ∀ a x, ((![v370] : Fin 1 → IVec S16 32) a x).toNat < S64000.size a := fun v370 k0_hw43 => k0_hw43

def k0_chk44 (v376 : IVec S16 32) : Prop :=
  (∀ a x, ((![v376] : Fin 1 → IVec S16 32) a x).toNat < S64000.size a)
theorem k0_idx44_inb : ∀ (v376 : IVec S16 32) (k0_hw44 : k0_chk44 v376), ∀ a x, ((![v376] : Fin 1 → IVec S16 32) a x).toNat < S64000.size a := fun v376 k0_hw44 => k0_hw44

def k0_chk45 (v382 : IVec S16 32) : Prop :=
  (∀ a x, ((![v382] : Fin 1 → IVec S16 32) a x).toNat < S64000.size a)
theorem k0_idx45_inb : ∀ (v382 : IVec S16 32) (k0_hw45 : k0_chk45 v382), ∀ a x, ((![v382] : Fin 1 → IVec S16 32) a x).toNat < S64000.size a := fun v382 k0_hw45 => k0_hw45

def k0_chk46 (v388 : IVec S16 32) : Prop :=
  (∀ a x, ((![v388] : Fin 1 → IVec S16 32) a x).toNat < S64000.size a)
theorem k0_idx46_inb : ∀ (v388 : IVec S16 32) (k0_hw46 : k0_chk46 v388), ∀ a x, ((![v388] : Fin 1 → IVec S16 32) a x).toNat < S64000.size a := fun v388 k0_hw46 => k0_hw46

def k0_chk47 (v398 : IVec S16 32) : Prop :=
  (∀ a x, ((![v398] : Fin 1 → IVec S16 32) a x).toNat < S64000.size a)
theorem k0_idx47_inb : ∀ (v398 : IVec S16 32) (k0_hw47 : k0_chk47 v398), ∀ a x, ((![v398] : Fin 1 → IVec S16 32) a x).toNat < S64000.size a := fun v398 k0_hw47 => k0_hw47

def k0_chk48 (v396 : IVec S16 32) : Prop :=
  (∀ a x, ((![v396] : Fin 1 → IVec S16 32) a x).toNat < S64000.size a)
theorem k0_idx48_inb : ∀ (v396 : IVec S16 32) (k0_hw48 : k0_chk48 v396), ∀ a x, ((![v396] : Fin 1 → IVec S16 32) a x).toNat < S64000.size a := fun v396 k0_hw48 => k0_hw48
def k0_off6 (k0_t2 : Fin k0_t2_loop.trips) : Fin 1 → Nat :=
  let c0_i32_18 : BitVec 32 := 0#32
  let c0_i32_14 : BitVec 32 := 0#32
  let c1_i32_15 : BitVec 32 := 1#32
  let arg11 : BitVec 32 := Scf.iv c0_i32_14 c1_i32_15 k0_t2
  let c1_i32_17 : BitVec 32 := 1#32
  let v42 : BitVec 32 := Scalar.muli arg11 c1_i32_17
  let v43 : BitVec 32 := Scalar.addi c0_i32_18 v42
  let c64_i32_19 : BitVec 32 := 64#32
  let v44 : BitVec 32 := Scalar.muli v43 c64_i32_19
  let c48_i32_129 : BitVec 32 := 48#32
  let v422 : BitVec 32 := Scalar.addi v44 c48_i32_129
  let v423 : Index := Scalar.indexCast v422
  ![v423.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv" => some ((999⁻¹ : ℝ) : EReal)
  | _ => none
-- ==== ReferenceIdeal.lean ====
abbrev S262144x64 : Shape := ⟨2, ![262144, 64]⟩
abbrev S64x1000 : Shape := ⟨2, ![64, 1000]⟩
abbrev S1000 : Shape := ⟨1, ![1000]⟩
abbrev S64x262144 : Shape := ⟨2, ![64, 262144]⟩
abbrev S64x1x1000 : Shape := ⟨3, ![64, 1, 1000]⟩
abbrev S64x262144x1 : Shape := ⟨3, ![64, 262144, 1]⟩
abbrev S64x262144x1000 : Shape := ⟨3, ![64, 262144, 1000]⟩
abbrev S_ : Shape := ⟨0, ![]⟩
abbrev S1 : Shape := ⟨1, ![1]⟩
abbrev S1x1x1 : Shape := ⟨3, ![1, 1, 1]⟩

abbrev nBuf : Space → Nat
  | .hbm => 118
  | .vmem => 0
  | .smem => 0
  | _ => 0

abbrev bufTy : (tb : Table) → Fin (tcTables nBuf tb) → BufTy
  | .hbm, ⟨0, _⟩ => ⟨S262144x64, .f32⟩
  | .hbm, ⟨1, _⟩ => ⟨S64x1000, .f32⟩
  | .hbm, ⟨2, _⟩ => ⟨S1000, .f32⟩
  | .hbm, ⟨3, _⟩ => ⟨S64x262144, .f32⟩
  | .hbm, ⟨4, _⟩ => ⟨S64x1x1000, .f32⟩
  | .hbm, ⟨5, _⟩ => ⟨S64x262144x1, .f32⟩
  | .hbm, ⟨6, _⟩ => ⟨S64x262144x1000, .f32⟩
  | .hbm, ⟨7, _⟩ => ⟨S64x262144x1000, .f32⟩
  | .hbm, ⟨8, _⟩ => ⟨S64x262144x1000, .i1⟩
  | .hbm, ⟨9, _⟩ => ⟨S64x262144x1000, .i32⟩
  | .hbm, ⟨10, _⟩ => ⟨S_, .i32⟩
  | .hbm, ⟨11, _⟩ => ⟨S64x262144, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S64x262144, .i32⟩
  | .hbm, ⟨16, _⟩ => ⟨S64x262144, .i32⟩
  | .hbm, ⟨17, _⟩ => ⟨S_, .i32⟩
  | .hbm, ⟨18, _⟩ => ⟨S64x262144, .i32⟩
  | .hbm, ⟨19, _⟩ => ⟨S64x262144, .i32⟩
  | .hbm, ⟨20, _⟩ => ⟨S_, .i32⟩
  | .hbm, ⟨21, _⟩ => ⟨S64x262144, .i32⟩
  | .hbm, ⟨22, _⟩ => ⟨S64x262144, .i32⟩
  | .hbm, ⟨23, _⟩ => ⟨S_, .i32⟩
  | .hbm, ⟨24, _⟩ => ⟨S64x262144, .i32⟩
  | .hbm, ⟨25, _⟩ => ⟨S64x262144, .i1⟩
  | .hbm, ⟨26, _⟩ => ⟨S_, .i32⟩
  | .hbm, ⟨27, _⟩ => ⟨S64x262144, .i32⟩
  | .hbm, ⟨28, _⟩ => ⟨S64x262144, .i32⟩
  | .hbm, ⟨29, _⟩ => ⟨S64x262144, .i32⟩
  | .hbm, ⟨30, _⟩ => ⟨S64x262144x1, .i32⟩
  | .hbm, ⟨31, _⟩ => ⟨S1, .i32⟩
  | .hbm, ⟨32, _⟩ => ⟨S_, .i32⟩
  | .hbm, ⟨33, _⟩ => ⟨S64x262144x1, .i32⟩
  | .hbm, ⟨34, _⟩ => ⟨S64x262144x1, .i1⟩
  | .hbm, ⟨35, _⟩ => ⟨S1x1x1, .i32⟩
  | .hbm, ⟨36, _⟩ => ⟨S64x262144x1, .i32⟩
  | .hbm, ⟨37, _⟩ => ⟨S64x262144x1, .i1⟩
  | .hbm, ⟨38, _⟩ => ⟨S64x262144x1, .i1⟩
  | .hbm, ⟨39, _⟩ => ⟨S_, .i1⟩
  | .hbm, ⟨40, _⟩ => ⟨S64x262144, .i1⟩
  | .hbm, ⟨41, _⟩ => ⟨S64x262144, .f32⟩
  | .hbm, ⟨42, _⟩ => ⟨S_, .f32⟩
  | .hbm, ⟨43, _⟩ => ⟨S64x262144, .f32⟩
  | .hbm, ⟨44, _⟩ => ⟨S64x262144, .f32⟩
  | .hbm, ⟨45, _⟩ => ⟨S_, .i32⟩
  | .hbm, ⟨46, _⟩ => ⟨S64x262144, .i32⟩
  | .hbm, ⟨47, _⟩ => ⟨S64x262144, .i1⟩
  | .hbm, ⟨48, _⟩ => ⟨S_, .i32⟩
  | .hbm, ⟨49, _⟩ => ⟨S64x262144, .i32⟩
  | .hbm, ⟨50, _⟩ => ⟨S64x262144, .i32⟩
  | .hbm, ⟨51, _⟩ => ⟨S64x262144, .i32⟩
  | .hbm, ⟨52, _⟩ => ⟨S64x262144x1, .i32⟩
  | .hbm, ⟨53, _⟩ => ⟨S1, .i32⟩
  | .hbm, ⟨54, _⟩ => ⟨S_, .i32⟩
  | .hbm, ⟨55, _⟩ => ⟨S64x262144x1, .i32⟩
  | .hbm, ⟨56, _⟩ => ⟨S64x262144x1, .i1⟩
  | .hbm, ⟨57, _⟩ => ⟨S1x1x1, .i32⟩
  | .hbm, ⟨58, _⟩ => ⟨S64x262144x1, .i32⟩
  | .hbm, ⟨59, _⟩ => ⟨S64x262144x1, .i1⟩
  | .hbm, ⟨60, _⟩ => ⟨S64x262144x1, .i1⟩
  | .hbm, ⟨61, _⟩ => ⟨S_, .i1⟩
  | .hbm, ⟨62, _⟩ => ⟨S64x262144, .i1⟩
  | .hbm, ⟨63, _⟩ => ⟨S64x262144, .f32⟩
  | .hbm, ⟨64, _⟩ => ⟨S_, .f32⟩
  | .hbm, ⟨65, _⟩ => ⟨S64x262144, .f32⟩
  | .hbm, ⟨66, _⟩ => ⟨S64x262144, .f32⟩
  | .hbm, ⟨67, _⟩ => ⟨S_, .i32⟩
  | .hbm, ⟨68, _⟩ => ⟨S64x262144, .i32⟩
  | .hbm, ⟨69, _⟩ => ⟨S64x262144, .i32⟩
  | .hbm, ⟨70, _⟩ => ⟨S_, .i32⟩
  | .hbm, ⟨71, _⟩ => ⟨S64x262144, .i32⟩
  | .hbm, ⟨72, _⟩ => ⟨S64x262144, .i1⟩
  | .hbm, ⟨73, _⟩ => ⟨S_, .i32⟩
  | .hbm, ⟨74, _⟩ => ⟨S64x262144, .i32⟩
  | .hbm, ⟨75, _⟩ => ⟨S64x262144, .i32⟩
  | .hbm, ⟨76, _⟩ => ⟨S64x262144, .i32⟩
  | .hbm, ⟨77, _⟩ => ⟨S64x262144x1, .i32⟩
  | .hbm, ⟨78, _⟩ => ⟨S64x262144, .f32⟩
  | .hbm, ⟨79, _⟩ => ⟨S_, .i32⟩
  | .hbm, ⟨80, _⟩ => ⟨S64x262144, .i32⟩
  | .hbm, ⟨81, _⟩ => ⟨S64x262144, .i1⟩
  | .hbm, ⟨82, _⟩ => ⟨S_, .i32⟩
  | .hbm, ⟨83, _⟩ => ⟨S64x262144, .i32⟩
  | .hbm, ⟨84, _⟩ => ⟨S64x262144, .i32⟩
  | .hbm, ⟨85, _⟩ => ⟨S64x262144, .i32⟩
  | .hbm, ⟨86, _⟩ => ⟨S64x262144x1, .i32⟩
  | .hbm, ⟨87, _⟩ => ⟨S64x262144, .f32⟩
  | .hbm, ⟨88, _⟩ => ⟨S64x262144, .f32⟩
  | .hbm, ⟨89, _⟩ => ⟨S64x262144, .f32⟩
  | .hbm, ⟨90, _⟩ => ⟨S_, .f32⟩
  | .hbm, ⟨91, _⟩ => ⟨S64x262144, .f32⟩
  | .hbm, ⟨92, _⟩ => ⟨S64x262144, .i1⟩
  | .hbm, ⟨93, _⟩ => ⟨S_, .f32⟩
  | .hbm, ⟨94, _⟩ => ⟨S64x262144, .f32⟩
  | .hbm, ⟨95, _⟩ => ⟨S64x262144, .f32⟩
  | .hbm, ⟨96, _⟩ => ⟨S64x262144, .f32⟩
  | .hbm, ⟨97, _⟩ => ⟨S64x262144, .f32⟩
  | .hbm, ⟨98, _⟩ => ⟨S_, .f32⟩
  | .hbm, ⟨99, _⟩ => ⟨S_, .f32⟩
  | .hbm, ⟨100, _⟩ => ⟨S_, .f32⟩
  | .hbm, ⟨101, _⟩ => ⟨S64x262144, .f32⟩
  | .hbm, ⟨102, _⟩ => ⟨S64x262144, .f32⟩
  | .hbm, ⟨103, _⟩ => ⟨S_, .f32⟩
  | .hbm, ⟨104, _⟩ => ⟨S64x262144, .f32⟩
  | .hbm, ⟨105, _⟩ => ⟨S64x262144, .f32⟩
  | .hbm, ⟨106, _⟩ => ⟨S64x262144, .f32⟩
  | .hbm, ⟨107, _⟩ => ⟨S64x262144, .f32⟩
  | .hbm, ⟨108, _⟩ => ⟨S64x262144, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S64x262144, .f32⟩
  | .hbm, ⟨113, _⟩ => ⟨S64x262144, .f32⟩
  | .hbm, ⟨114, _⟩ => ⟨S_, .f32⟩
  | .hbm, ⟨115, _⟩ => ⟨S64x262144, .f32⟩
  | .hbm, ⟨116, _⟩ => ⟨S64x262144, .f32⟩
  | .hbm, ⟨117, _⟩ => ⟨S262144x64, .f32⟩
  | _, _ => ⟨S262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v8 : Ref sig .tc := ⟨.hbm, 19, rfl⟩
abbrev main_c_2 : Ref sig .tc := ⟨.hbm, 20, rfl⟩
abbrev main_v9 : Ref sig .tc := ⟨.hbm, 21, rfl⟩
abbrev main_v10 : Ref sig .tc := ⟨.hbm, 22, rfl⟩
abbrev main_call1_c : Ref sig .tc := ⟨.hbm, 23, rfl⟩
abbrev main_call1_v0 : Ref sig .tc := ⟨.hbm, 24, rfl⟩
abbrev main_call1_v1 : Ref sig .tc := ⟨.hbm, 25, rfl⟩
abbrev main_call1_c_0 : Ref sig .tc := ⟨.hbm, 26, rfl⟩
abbrev main_call1_v2 : Ref sig .tc := ⟨.hbm, 27, rfl⟩
abbrev main_call1_v3 : Ref sig .tc := ⟨.hbm, 28, rfl⟩
abbrev main_call1_v4 : Ref sig .tc := ⟨.hbm, 29, rfl⟩
abbrev main_call1_v5 : Ref sig .tc := ⟨.hbm, 30, rfl⟩
abbrev main_call1_c_1 : Ref sig .tc := ⟨.hbm, 31, rfl⟩
abbrev main_call1_c_2 : Ref sig .tc := ⟨.hbm, 32, rfl⟩
abbrev main_call1_v6 : Ref sig .tc := ⟨.hbm, 33, rfl⟩
abbrev main_call1_v7 : Ref sig .tc := ⟨.hbm, 34, rfl⟩
abbrev main_call1_v8 : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_3 : Ref sig .tc := ⟨.hbm, 39, rfl⟩
abbrev main_call1_v12 : Ref sig .tc := ⟨.hbm, 40, rfl⟩
abbrev main_call1_v13 : Ref sig .tc := ⟨.hbm, 41, rfl⟩
abbrev main_call1_cst : Ref sig .tc := ⟨.hbm, 42, rfl⟩
abbrev main_call1_v14 : Ref sig .tc := ⟨.hbm, 43, rfl⟩
abbrev main_v11 : Ref sig .tc := ⟨.hbm, 44, rfl⟩
abbrev main_call2_c : Ref sig .tc := ⟨.hbm, 45, rfl⟩
abbrev main_call2_v0 : Ref sig .tc := ⟨.hbm, 46, rfl⟩
abbrev main_call2_v1 : Ref sig .tc := ⟨.hbm, 47, rfl⟩
abbrev main_call2_c_0 : Ref sig .tc := ⟨.hbm, 48, rfl⟩
abbrev main_call2_v2 : Ref sig .tc := ⟨.hbm, 49, rfl⟩
abbrev main_call2_v3 : Ref sig .tc := ⟨.hbm, 50, rfl⟩
abbrev main_call2_v4 : Ref sig .tc := ⟨.hbm, 51, rfl⟩
abbrev main_call2_v5 : Ref sig .tc := ⟨.hbm, 52, rfl⟩
abbrev main_call2_c_1 : Ref sig .tc := ⟨.hbm, 53, rfl⟩
abbrev main_call2_c_2 : Ref sig .tc := ⟨.hbm, 54, rfl⟩
abbrev main_call2_v6 : Ref sig .tc := ⟨.hbm, 55, rfl⟩
abbrev main_call2_v7 : Ref sig .tc := ⟨.hbm, 56, rfl⟩
abbrev main_call2_v8 : Ref sig .tc := ⟨.hbm, 57, rfl⟩
abbrev main_call2_v9 : Ref sig .tc := ⟨.hbm, 58, rfl⟩
abbrev main_call2_v10 : Ref sig .tc := ⟨.hbm, 59, rfl⟩
abbrev main_call2_v11 : Ref sig .tc := ⟨.hbm, 60, rfl⟩
abbrev main_call2_c_3 : Ref sig .tc := ⟨.hbm, 61, rfl⟩
abbrev main_call2_v12 : Ref sig .tc := ⟨.hbm, 62, rfl⟩
abbrev main_call2_v13 : Ref sig .tc := ⟨.hbm, 63, rfl⟩
abbrev main_call2_cst : Ref sig .tc := ⟨.hbm, 64, rfl⟩
abbrev main_call2_v14 : Ref sig .tc := ⟨.hbm, 65, rfl⟩
abbrev main_v12 : Ref sig .tc := ⟨.hbm, 66, rfl⟩
abbrev main_c_3 : Ref sig .tc := ⟨.hbm, 67, rfl⟩
abbrev main_v13 : Ref sig .tc := ⟨.hbm, 68, rfl⟩
abbrev main_v14 : Ref sig .tc := ⟨.hbm, 69, rfl⟩
abbrev main_c_4 : Ref sig .tc := ⟨.hbm, 70, rfl⟩
abbrev main_v15 : Ref sig .tc := ⟨.hbm, 71, rfl⟩
abbrev main_v16 : Ref sig .tc := ⟨.hbm, 72, rfl⟩
abbrev main_c_5 : Ref sig .tc := ⟨.hbm, 73, rfl⟩
abbrev main_v17 : Ref sig .tc := ⟨.hbm, 74, rfl⟩
abbrev main_v18 : Ref sig .tc := ⟨.hbm, 75, rfl⟩
abbrev main_v19 : Ref sig .tc := ⟨.hbm, 76, rfl⟩
abbrev main_v20 : Ref sig .tc := ⟨.hbm, 77, rfl⟩
abbrev main_v21 : Ref sig .tc := ⟨.hbm, 78, rfl⟩
abbrev main_c_6 : Ref sig .tc := ⟨.hbm, 79, rfl⟩
abbrev main_v22 : Ref sig .tc := ⟨.hbm, 80, rfl⟩
abbrev main_v23 : Ref sig .tc := ⟨.hbm, 81, rfl⟩
abbrev main_c_7 : Ref sig .tc := ⟨.hbm, 82, rfl⟩
abbrev main_v24 : Ref sig .tc := ⟨.hbm, 83, rfl⟩
abbrev main_v25 : Ref sig .tc := ⟨.hbm, 84, rfl⟩
abbrev main_v26 : Ref sig .tc := ⟨.hbm, 85, rfl⟩
abbrev main_v27 : Ref sig .tc := ⟨.hbm, 86, rfl⟩
abbrev main_v28 : Ref sig .tc := ⟨.hbm, 87, rfl⟩
abbrev main_v29 : Ref sig .tc := ⟨.hbm, 88, rfl⟩
abbrev main_v30 : Ref sig .tc := ⟨.hbm, 89, rfl⟩
abbrev main_cst : Ref sig .tc := ⟨.hbm, 90, rfl⟩
abbrev main_v31 : Ref sig .tc := ⟨.hbm, 91, rfl⟩
abbrev main_v32 : Ref sig .tc := ⟨.hbm, 92, rfl⟩
abbrev main_cst_8 : Ref sig .tc := ⟨.hbm, 93, rfl⟩
abbrev main_v33 : Ref sig .tc := ⟨.hbm, 94, rfl⟩
abbrev main_v34 : Ref sig .tc := ⟨.hbm, 95, rfl⟩
abbrev main_v35 : Ref sig .tc := ⟨.hbm, 96, rfl⟩
abbrev main_v36 : Ref sig .tc := ⟨.hbm, 97, rfl⟩
abbrev main_cst_9 : Ref sig .tc := ⟨.hbm, 98, rfl⟩
abbrev main_cst_10 : Ref sig .tc := ⟨.hbm, 99, rfl⟩
abbrev main_call4_v0 : Ref sig .tc := ⟨.hbm, 100, rfl⟩
abbrev main_call4_v1 : Ref sig .tc := ⟨.hbm, 101, rfl⟩
abbrev main_call4_v2 : Ref sig .tc := ⟨.hbm, 102, rfl⟩
abbrev main_call4_v3 : Ref sig .tc := ⟨.hbm, 103, rfl⟩
abbrev main_call4_v4 : Ref sig .tc := ⟨.hbm, 104, rfl⟩
abbrev main_v37 : Ref sig .tc := ⟨.hbm, 105, rfl⟩
abbrev main_v38 : Ref sig .tc := ⟨.hbm, 106, rfl⟩
abbrev main_v39 : Ref sig .tc := ⟨.hbm, 107, rfl⟩
abbrev main_v40 : Ref sig .tc := ⟨.hbm, 108, rfl⟩
abbrev main_cst_11 : Ref sig .tc := ⟨.hbm, 109, rfl⟩
abbrev main_cst_12 : Ref sig .tc := ⟨.hbm, 110, rfl⟩
abbrev main_call5_v0 : Ref sig .tc := ⟨.hbm, 111, rfl⟩
abbrev main_call5_v1 : Ref sig .tc := ⟨.hbm, 112, rfl⟩
abbrev main_call5_v2 : Ref sig .tc := ⟨.hbm, 113, rfl⟩
abbrev main_call5_v3 : Ref sig .tc := ⟨.hbm, 114, rfl⟩
abbrev main_call5_v4 : Ref sig .tc := ⟨.hbm, 115, rfl⟩
abbrev main_v41 : Ref sig .tc := ⟨.hbm, 116, rfl⟩
abbrev main_v42 : Ref sig .tc := ⟨.hbm, 117, rfl⟩

abbrev nD : Nat := 1
abbrev τ : Topo := Topo.v7x

variable {F : FTy → Type} [FloatOps F]
-- ==== Proof.Value.lean ====
/-
  One lane of the quantile kernel, as a function of the table, the lane's value and the word its feature's row starts
  at: the ten bracketing steps of the search, the clip of the slot they end at, and the interpolated quantile. Stated
  once for every float model; the two printed programs differ in the word of the step `1 / 999` alone, a parameter here.
-/
module

public import Idealize.ShloMosaic.Lib.SparseCore.Ops

@[expose] public section

noncomputable section

namespace Cert.Quantile

open Idealize.ShloMosaic

variable {F : FTy → Type} [FloatOps F]

/-- The shapes: a register of sixteen lanes, and the table of 64 rows of 1000 quantiles, flat. -/
abbrev Lanes : Shape := ⟨1, ![16]⟩
abbrev Table : Shape := ⟨1, ![64000]⟩

/-- The table's cell a word names; the last cell for a word past the end, which no run reads. -/
def cell (g : BitVec 32) : Table.Idx :=
  fun a => ⟨min g.toNat 63999, by rw [Fin.eq_zero a]; show min g.toNat 63999 < 64000; omega⟩

/-- The search's steps: how far the slot moves up when its quantile is below the value, and down when it is not. -/
def steps : List (ℕ × ℕ) :=
  [(232, 256), (128, 128), (64, 64), (32, 32), (16, 16), (8, 8), (4, 4), (2, 2), (1, 1), (1, 0)]

/-- The words of a step, as the kernel adds them. -/
abbrev up (s : ℕ × ℕ) : BitVec 32 := BitVec.ofNat 32 s.1
abbrev down (s : ℕ × ℕ) : BitVec 32 := BitVec.ofNat 32 (4294967296 - s.2)

/-- One step of one lane. -/
def step (tab : Vec F Table .f32) (x : F .f32) (g : BitVec 32) (s : ℕ × ℕ) : BitVec 32 :=
  IntOp.addi g (Scalar.select (FloatOps.cmpf .olt (tab (cell g)) x) (up s) (down s))

/-- The clip of a slot to the row's second cell and its last. -/
def clip (fb g : BitVec 32) : BitVec 32 :=
  IntOp.minsi (IntOp.maxsi g (IntOp.addi fb 1#32)) (IntOp.addi fb 999#32)

/-- The slot a lane interpolates below: the search from the row's middle, clipped. -/
def slot (tab : Vec F Table .f32) (x : F .f32) (fb : BitVec 32) : BitVec 32 :=
  clip fb (steps.foldl (step tab x) (IntOp.addi fb 511#32))

/-- The lane's quantile, from the words of its row and its slot, the quantiles on either side and its value. -/
def interp (inv : F .f32) (fb g : BitVec 32) (lo hi x : F .f32) : F .f32 :=
  FloatOps.minimumf
    (FloatOps.mulf
      (FloatOps.addf (FloatOps.subf (FloatOps.sitofp .f32 (IntOp.subi g fb)) (Scalar.ofBits .f32 0x3F800000#32))
        (FloatOps.minimumf (Scalar.ofBits .f32 0x3F800000#32)
          (FloatOps.maximumf (Scalar.ofBits .f32 0x00000000#32)
            (FloatOps.divf (FloatOps.subf x lo)
              (Scalar.select (FloatOps.cmpf .olt (FloatOps.absf (FloatOps.subf hi lo)) (Scalar.ofBits .f32 0x2EDBE6FF#32))
                (Scalar.ofBits .f32 0x3F800000#32) (FloatOps.subf hi lo))))))
      inv)
    (Scalar.ofBits .f32 0x3F800000#32)

/-- The lane's result. -/
def lane (inv : F .f32) (tab : Vec F Table .f32) (x : F .f32) (fb : BitVec 32) : F .f32 :=
  interp inv fb (slot tab x fb) (tab (cell (IntOp.subi (slot tab x fb) 1#32))) (tab (cell (slot tab x fb))) x

/-- The interpolation at a word that is the slot is the lane's result. -/
theorem lane_of_slot (inv : F .f32) (tab : Vec F Table .f32) (x : F .f32) {fb p : BitVec 32} (h : p = slot tab x fb) :
    interp inv fb p (tab (cell (IntOp.subi p 1#32))) (tab (cell p)) x = lane inv tab x fb := by
  subst h; rfl

/-- The word feature `n % 64`'s row of the table starts at: the feature of place `n` in the flat values. -/
def rowWord (n : ℕ) : BitVec 32 := BitVec.ofNat 32 (1000 * (n % 64))

theorem rowWord_toNat (n : ℕ) : (rowWord n).toNat = 1000 * (n % 64) := by
  unfold rowWord; rw [BitVec.toNat_ofNat]; omega

theorem rowWord_le (n : ℕ) : (rowWord n).toNat ≤ 63000 := by
  rw [rowWord_toNat]; omega

/-! ## Where the search goes -/

/-- The search over the offsets in a row: `c n` says the quantile at offset `n` is below the value. -/
def walk (c : ℕ → Bool) : List (ℕ × ℕ) → ℕ → ℕ
  | [], n => n
  | s :: l, n => walk c l (if c n then n + s.1 else n - s.2)

/-- From offset `n` the steps `l` stay in the row, whichever way each goes. -/
def Fits (l : List (ℕ × ℕ)) (n : ℕ) : Prop := (l.map Prod.snd).sum ≤ n ∧ n + (l.map Prod.fst).sum ≤ 999

theorem fits_steps : Fits steps 511 := by unfold Fits; decide

/-- What a step's tail needs, from what the whole needs. -/
theorem Fits.tail {s : ℕ × ℕ} {l : List (ℕ × ℕ)} {n : ℕ} (h : Fits (s :: l) n) (b : Bool) :
    Fits l (if b then n + s.1 else n - s.2) := by
  unfold Fits at h ⊢
  simp only [List.map_cons, List.sum_cons] at h
  split <;> omega

theorem Fits.le {l : List (ℕ × ℕ)} {n : ℕ} (h : Fits l n) : n ≤ 999 := by
  unfold Fits at h; omega

/-- Whether the quantile at a word is below the value. -/
def below (tab : Vec F Table .f32) (x : F .f32) (g : BitVec 32) : Bool := decide (FloatOps.cmpf .olt (tab (cell g)) x = 1)

/-- A step's word, as a number: its row's start and the offset `walk` goes to. -/
theorem step_toNat (tab : Vec F Table .f32) (x : F .f32) {fb g : BitVec 32} {n : ℕ} {s : ℕ × ℕ} (hfb : fb.toNat ≤ 63000)
    (hg : g.toNat = fb.toNat + n) (hd : s.2 ≤ n) (hu : n + s.1 ≤ 999) :
    (step tab x g s).toNat = fb.toNat + (if below tab x g then n + s.1 else n - s.2) := by
  have ha : ∀ w : BitVec 32, (IntOp.addi g w).toNat = (g.toNat + w.toNat) % 4294967296 := fun w => BitVec.toNat_add g w
  unfold step below Scalar.select
  rw [ha, hg]
  by_cases h : FloatOps.cmpf .olt (tab (cell g)) x = 1
  · rw [if_pos h, if_pos (decide_eq_true h), BitVec.toNat_ofNat]
    omega
  · rw [if_neg h, if_neg (by simpa using h), BitVec.toNat_ofNat]
    omega

/-- The search's word, as a number. -/
theorem foldl_toNat (tab : Vec F Table .f32) (x : F .f32) {fb : BitVec 32} (hfb : fb.toNat ≤ 63000) :
    ∀ (l : List (ℕ × ℕ)) (g : BitVec 32) (n : ℕ), g.toNat = fb.toNat + n → Fits l n →
      (l.foldl (step tab x) g).toNat = fb.toNat + walk (fun k => below tab x (BitVec.ofNat 32 (fb.toNat + k))) l n
  | [], g, n, hg, _ => hg
  | s :: l, g, n, hg, h => by
    have e : BitVec.ofNat 32 (fb.toNat + n) = g := by rw [← hg]; simp
    have h' := h
    unfold Fits at h'
    simp only [List.map_cons, List.sum_cons] at h'
    rw [List.foldl_cons, walk]
    refine foldl_toNat tab x hfb l _ _ ?_ (h.tail _)
    rw [step_toNat tab x hfb hg (by omega) (by omega), e]

/-- A search that fits ends in the row. -/
theorem walk_le (c : ℕ → Bool) : ∀ (l : List (ℕ × ℕ)) (n : ℕ), Fits l n → walk c l n ≤ 999
  | [], _, h => h.le
  | _ :: l, _, h => walk_le c l _ (h.tail _)

/-- The search's start, as a number. -/
theorem start_toNat {fb : BitVec 32} (hfb : fb.toNat ≤ 63000) : (IntOp.addi fb 511#32).toNat = fb.toNat + 511 := by
  simp [IntOp.addi, BitVec.toNat_add]; omega

/-- The clip, as a number. -/
theorem clip_toNat {fb g : BitVec 32} {n : ℕ} (hfb : fb.toNat ≤ 63000) (hg : g.toNat = fb.toNat + n) (hn : n ≤ 999) :
    (clip fb g).toNat = fb.toNat + max n 1 := by
  have e1 : (IntOp.addi fb 1#32).toNat = fb.toNat + 1 := by simp [IntOp.addi, BitVec.toNat_add]; omega
  have e9 : (IntOp.addi fb 999#32).toNat = fb.toNat + 999 := by simp [IntOp.addi, BitVec.toNat_add]; omega
  have hs : ∀ a b : BitVec 32, a.toNat < 2147483648 → b.toNat < 2147483648 → (a.slt b = decide (a.toNat < b.toNat)) := by
    intro a b ha hb
    rw [BitVec.slt_eq_decide, BitVec.toInt_eq_toNat_of_lt (by omega), BitVec.toInt_eq_toNat_of_lt (by omega)]
    simp
  have em : (IntOp.maxsi g (IntOp.addi fb 1#32)).toNat = fb.toNat + max n 1 := by
    unfold IntOp.maxsi
    rw [hs _ _ (by omega) (by omega)]
    split <;> simp_all <;> omega
  unfold clip
  rw [IntOp.minsi, hs _ _ (by omega) (by omega)]
  split <;> simp_all <;> omega

/-- The slot, as a number: the row's start and an offset from 1 to 999. -/
theorem slot_toNat (tab : Vec F Table .f32) (x : F .f32) {fb : BitVec 32} (hfb : fb.toNat ≤ 63000) :
    (slot tab x fb).toNat = fb.toNat + max (walk (fun k => below tab x (BitVec.ofNat 32 (fb.toNat + k))) steps 511) 1 :=
  clip_toNat hfb (foldl_toNat tab x hfb steps _ 511 (start_toNat hfb) fits_steps) (walk_le _ _ _ fits_steps)

/-- The slot and the cell before it are cells of the table. -/
theorem slot_lt (tab : Vec F Table .f32) (x : F .f32) {fb : BitVec 32} (hfb : fb.toNat ≤ 63000) :
    (slot tab x fb).toNat < 64000 ∧ (IntOp.subi (slot tab x fb) 1#32).toNat < 64000 := by
  have h := slot_toNat tab x hfb
  have hw := walk_le (fun k => below tab x (BitVec.ofNat 32 (fb.toNat + k))) _ _ fits_steps
  have e : (IntOp.subi (slot tab x fb) 1#32).toNat = (4294967296 - 1 + (slot tab x fb).toNat) % 4294967296 := BitVec.toNat_sub _ _
  omega

/-- Where the quantiles below the value are the first `n` of the row, the search ends at `n`, or at the last cell. -/
theorem walk_count : ∀ n ≤ 1000, walk (fun k => decide (k < n)) steps 511 = min n 999 := by
  decide +kernel

end Cert.Quantile
-- ==== Proof.KernelIdealGroup.lean ====
/-
  The inner loop's trip of the quantile kernel: sixty-four values searched in the table and written back, as four groups
  of sixteen lanes. The program is restated as those four groups, each one's search a recursion over the ten steps, and
  a group is proved once: it reads its sixteen values, its checks pass (no word the search reaches leaves the lane's row
  of the table), and it leaves each lane's result (Value.lean `lane`) in the out block.
-/
module

public import proofs.«01_k».proof.Defs
public import proofs.«01_k».proof.Proof.Value
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen Cert.Quantile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The algebra: the handshakes' rounds beside the copies' counters -/

abbrev 𝒱₀ : Variants := Variants.none
abbrev UH : Type := URounds (GSem nD τ sig) ℕ
abbrev UU : Type := UH × Counters

local notation "𝕄" => MT nD τ sig (HIx 1) (Elt F) ℕ UU ℕ

variable [FloatOps F] [Named F]

/-! ## The program, by its repeats -/

/-- The index vector is checked and the table read at it. -/
def fetch (i : grid0.Coords) (tabM : Memref sig .scVector .vmem S64000 .f32) (g : IVec S16 32) : Prog (TpuEff nD τ sig (Elt F) Λ₀ (.scVector ((i 0).castLE hcore0) ((i 1).castLE hsub0))) (Vec F S16 .f32) := do
  have hw : k0_chk1 g := (← Prog.lift (TpuEff.assume (k0_chk1 g) (k0_chk1.dec g))).down
  SparseCore.vectorLoadIdx tabM ![g] (k0_idx1_inb g hw) (View.loads_vmem h_S64000)

def chain (i : grid0.Coords) (tabM : Memref sig .scVector .vmem S64000 .f32) (xv : Vec F S16 .f32) :
    List (ℕ × ℕ) → IVec S16 32 → Prog (TpuEff nD τ sig (Elt F) Λ₀ (.scVector ((i 0).castLE hcore0) ((i 1).castLE hsub0))) (IVec S16 32)
  | [], g => pure g
  | s :: l, g => do
    let v : Vec F S16 .f32 ← fetch i tabM g
    chain i tabM xv l (addi g (select (cmpf .olt v xv) (broadcast S16 (up s)) (broadcast S16 (down s))))

/-- The named step `1 / 999`, as the program spells it. -/
def inv : F .f32 := Named.named κ "inv" 0x3A833405#32

def group (i : grid0.Coords) (tabM : Memref sig .scVector .vmem S64000 .f32) (xM oM : Memref sig .scVector .vmem S8192 .f32)
    (fb lo hi : IVec S16 32) (a b : Fin 1 → ℕ) (ha : ∀ k, a k + S16.size k ≤ S8192.size k) (hb : ∀ k, b k + S16.size k ≤ S8192.size k) :
    Prog (TpuEff nD τ sig (Elt F) Λ₀ (.scVector ((i 0).castLE hcore0) ((i 1).castLE hsub0))) Unit := do
  let xv : Vec F S16 .f32 ← Prog.lift (.load xM (Rect.unit (s := S8192) a S16.size ha).toLoadRect (View.loadsAt_vmem h_S16))
  let g : IVec S16 32 ← chain i tabM xv steps (addi fb (broadcast S16 511#32))
  have p : IVec S16 32 := minsi (maxsi g lo) hi
  have hp : k0_chk1 p := (← Prog.lift (TpuEff.assume (k0_chk1 p) (k0_chk1.dec p))).down
  have r : IVec S16 32 := subi p (broadcast S16 1#32)
  have hr : k0_chk1 r := (← Prog.lift (TpuEff.assume (k0_chk1 r) (k0_chk1.dec r))).down
  let ql : Vec F S16 .f32 ← SparseCore.vectorLoadIdx tabM ![r] (k0_idx1_inb r hr) (View.loads_vmem h_S64000)
  let qh : Vec F S16 .f32 ← SparseCore.vectorLoadIdx tabM ![p] (k0_idx1_inb p hp) (View.loads_vmem h_S64000)
  let _ : Vec F S16 .f32 ← Prog.lift (.load oM (Rect.unit (s := S8192) b S16.size hb).toLoadRect (View.loadsAt_vmem h_S16))
  Prog.lift (.store oM (Rect.unit (s := S8192) b S16.size hb) (fun k => interp inv (fb k) (p k) (ql k) (qh k) (xv k)) Finset.univ
    (View.stores_vmem_bits_univ h_S16 rfl) (.inl rfl))

set_option maxRecDepth 65536 in
theorem t2_body_eq (i : grid0.Coords) (arg2 : Memref sig .scVector .hbm S16777216 .f32) (harg2 : arg2.IsWhole) (arg3 : Memref sig .scVector .hbm S64000 .f32) (harg3 : arg3.IsWhole) (arg4 : Memref sig .scVector .hbm S16777216 .f32) (harg4 : arg4.IsWhole) (arg5 : Memref sig .scVector .vmem S64000 .f32) (harg5 : arg5.IsWhole) (arg6 : Memref sig .scVector .vmem S8192 .f32) (harg6 : arg6.IsWhole) (arg7 : Memref sig .scVector .vmem S8192 .f32) (harg7 : arg7.IsWhole) (arg8 : DmaSems sig S_) (arg9 : DmaSems sig S_) (v37_r0 : DmaSems sig S_) (v42_r1 : DmaSems sig S_) (v42_r2 : DmaSems sig S_) (v7 : IVec S16 32) (v11 : IVec S16 32) (v15 : IVec S16 32) (v19 : IVec S16 32) (v21 : IVec S16 32) (v23 : IVec S16 32) (v25 : IVec S16 32) (v27 : IVec S16 32) (v29 : IVec S16 32) (v31 : IVec S16 32) (v33 : IVec S16 32) (v35 : IVec S16 32) (t : Fin k0_t2_loop.trips) (u : Unit) :
    k0_t2_body (F := F) i arg2 harg2 arg3 harg3 arg4 harg4 arg5 harg5 arg6 harg6 arg7 harg7 arg8 arg9 v37_r0 v42_r1 v42_r2 v7 v11 v15 v19 v21 v23 v25 v27 v29 v31 v33 v35 t u
      = (do
        group i arg5 arg6 arg7 v7 v21 v29 (k0_off2 t) (k0_off3 t 0#32) (k0_off2_inb t) (k0_off3_inb t 0)
        group i arg5 arg6 arg7 v11 v23 v31 (k0_off3 t 16#32) (k0_off4 t 16#32) (k0_off3_inb t 1) (k0_off4_inb t 0)
        group i arg5 arg6 arg7 v15 v25 v33 (k0_off4 t 32#32) (k0_off5 t 32#32) (k0_off4_inb t 1) (k0_off5_inb t 0)
        group i arg5 arg6 arg7 v19 v27 v35 (k0_off5 t 48#32) (k0_off6 t) (k0_off5_inb t 1) (k0_off6_inb t)) := rfl

/-! ## A tile's scratch -/

/-- The tile at the place `L` of the grid, its thread, and its three buffers as the program addresses them. -/
abbrev thr (d : Dev nD) (L : grid0.Coords) : Thread nD τ := V d ((L 0).castLE hcore0) ((L 1).castLE hsub0)
abbrev tabM : Memref sig .scVector .vmem S64000 .f32 := Memref.whole cc0_scratch0
abbrev xM : Memref sig .scVector .vmem S8192 .f32 := Memref.whole cc0_scratch1
abbrev oM : Memref sig .scVector .vmem S8192 .f32 := Memref.whole cc0_scratch2

variable (d : Dev nD) (L : grid0.Coords)

/-- The three buffers held whole: the table at `T`, the values at `X`, the results at `O`. -/
abbrev tabPts (T : Vec F S64000 .f32) : sProp 𝕄 := (thr d L).loc cc0_scratch0 ↦{fullShare} T
abbrev xPts (X : Vec F S8192 .f32) : sProp 𝕄 := (thr d L).loc cc0_scratch1 ↦{fullShare} X
abbrev oPts (O : Vec F S8192 .f32) : sProp 𝕄 := (thr d L).loc cc0_scratch2 ↦{fullShare} O

/-- A check on an index vector passes when every word it holds is a cell of the table. -/
theorem chk_of_lt {g : IVec S16 32} (h : ∀ x, (g x).toNat < 64000) : k0_chk1 g := by
  intro a x
  obtain rfl : a = 0 := Subsingleton.elim _ _
  exact h x

omit [FloatOps F] [Named F] in
/-- What an indexed load of the table reads: at each lane the cell its word names. -/
theorem loadIdx_eq (T : Vec F S64000 .f32) {g : IVec S16 32} (h : ∀ a x, ((![g] : Fin 1 → IVec S16 32) a x).toNat < S64000.size a) :
    (loadIdx ((tabM.access (.whole S64000)).read (Elt F) T) ![g] h : Vec F S16 .f32) = fun x => T (cell (g x)) := by
  funext x
  refine (congrFun (Memref.read_access_whole (Elt F) cc0_scratch0 T) _).trans (congrArg T ?_)
  funext a
  obtain rfl : a = 0 := Subsingleton.elim _ _
  apply Fin.ext
  have := h 0 x
  show (g x).toNat = min (g x).toNat 63999
  have h' : (g x).toNat < 64000 := this
  omega

/-- An indexed load of the table at words that are its cells. -/
theorem wp_gather {α : Type} {Q : α → sProp 𝕄} (T : Vec F S64000 .f32) {g : IVec S16 32} (hg : k0_chk1 g)
    {k : Vec F S16 .f32 → Prog (TpuEff nD τ sig (Elt F) Λ₀ (thr d L).2) α} :
    iprop(tabPts d L T ∗ (tabPts d L T -∗ wp frame (wpE (defs₀ (F := F)) 𝒱₀ (thr d L) none) Set.univ (k fun x => T (cell (g x))) Q))
      ⊢ wp frame (wpE (defs₀ (F := F)) 𝒱₀ (thr d L) none) Set.univ
          (SparseCore.vectorLoadIdx tabM ![g] (k0_idx1_inb g hg) (View.loads_vmem h_S64000) >>= k) Q := by
  iintro ⟨HT, Hk⟩
  iapply (SparseCore.wp_vectorLoadIdx 𝒱₀ (thr d L) none Set.univ (base := tabM) (S := Finset.univ) (q := fullShare)
    (Finset.subset_univ _)) $$ HT
  rw [loadIdx_eq]
  iexact Hk

/-- The search: from words at which the remaining steps stay in each lane's row, it runs with the table in hand and ends
    at the steps' fold. -/
theorem wp_chain {α : Type} {Q : α → sProp 𝕄} (T : Vec F S64000 .f32) (xv : Vec F S16 .f32) {fb : IVec S16 32} (hfb : ∀ x, (fb x).toNat ≤ 63000)
    {k : IVec S16 32 → Prog (TpuEff nD τ sig (Elt F) Λ₀ (thr d L).2) α} :
    ∀ (l : List (ℕ × ℕ)) (g : IVec S16 32), (∀ x, ∃ n, (g x).toNat = (fb x).toNat + n ∧ Fits l n) →
      iprop(tabPts d L T ∗ (tabPts d L T -∗ wp frame (wpE (defs₀ (F := F)) 𝒱₀ (thr d L) none) Set.univ
          (k fun x => l.foldl (step T (xv x)) (g x)) Q))
        ⊢ wp frame (wpE (defs₀ (F := F)) 𝒱₀ (thr d L) none) Set.univ (chain L tabM xv l g >>= k) Q
  | [], g, _ => by
    iintro ⟨HT, Hk⟩
    ihave H := Hk $$ HT
    iexact H
  | s :: l, g, h => by
    have hg : k0_chk1 g := chk_of_lt fun x => by
      obtain ⟨n, hn, hf⟩ := h x
      have := hf.le; have := hfb x; omega
    have ih := wp_chain T xv hfb (Q := Q) (k := k) l (fun x => step T (xv x) (g x) s) fun x => by
      obtain ⟨n, hn, hf⟩ := h x
      have hf' := hf
      unfold Fits at hf'
      simp only [List.map_cons, List.sum_cons] at hf'
      exact ⟨_, step_toNat T (xv x) (hfb x) hn (by omega) (by omega), hf.tail _⟩
    show _ ⊢ wp _ _ _ (.op (.assume (k0_chk1 g) (k0_chk1.dec g)) fun hw => SparseCore.vectorLoadIdx tabM ![g] (k0_idx1_inb g hw.down) (View.loads_vmem h_S64000)
      >>= fun v => chain L tabM xv l (addi g (select (cmpf .olt v xv) (broadcast S16 (up s)) (broadcast S16 (down s)))) >>= k) _
    rw [wp_assume_of _ _ _ _ hg]
    iintro ⟨HT, Hk⟩
    iapply (wp_gather d L T hg)
    isplitl [HT]; · iexact HT
    iintro HT
    iapply ih
    isplitl [HT]; · iexact HT
    iexact Hk

/-! ## A group -/

/-- What a block of values becomes: each place's result, its feature the place's remainder by 64. -/
def blockOut (T : Vec F S64000 .f32) (X : Vec F S8192 .f32) : Vec F S8192 .f32 := fun j => lane inv T (X j) (rowWord (j 0).val)

/-- The table and the values held, and the out block with its first `n` results in place. -/
def doneTo (T : Vec F S64000 .f32) (X : Vec F S8192 .f32) (n : ℕ) : sProp 𝕄 :=
  iprop(tabPts d L T ∗ xPts d L X ∗ ∃ O : Vec F S8192 .f32, ⌜∀ j : S8192.Idx, (j 0).val < n → O j = blockOut T X j⌝ ∗ oPts d L O)

/-- The place of a group's lane in the block. -/
def place {n : ℕ} (hn : n + 16 ≤ 8192) (x : S16.Idx) : S8192.Idx :=
  fun a => ⟨n + (x 0).val, by have h : (x 0).val < 16 := (x 0).isLt; rw [Fin.eq_zero a]; show n + (x 0).val < 8192; omega⟩

omit [FloatOps F] [Named F] in
/-- A load of sixteen values from place `n`. -/
theorem readAt_group {n : ℕ} (hn : n + 16 ≤ 8192) {a : Fin 1 → ℕ} (ea : a = ![n]) (ha : ∀ k, a k + S16.size k ≤ S8192.size k) (X : Vec F S8192 .f32) :
    xM.view.readAt (Elt F) (Rect.unit (s := S8192) a S16.size ha).toLoadRect X = fun x => X (place hn x) := by
  subst ea
  funext x
  refine (View.readAt_apply _ _ _).trans (congrArg X ?_)
  funext k
  obtain rfl : k = 0 := Subsingleton.elim (α := Fin 1) _ _
  apply Fin.ext
  show n + 1 * (x 0).val = n + (x 0).val
  omega

omit [FloatOps F] [Named F] in
/-- A store of sixteen results from place `n`: the block's first `n + 16` are in place. -/
theorem write_group {n : ℕ} (hn : n + 16 ≤ 8192) {a : Fin 1 → ℕ} (ea : a = ![n]) (ha : ∀ k, a k + S16.size k ≤ S8192.size k) (O R : Vec F S8192 .f32)
    (hO : ∀ j : S8192.Idx, (j 0).val < n → O j = R j) (j : S8192.Idx) (hj : (j 0).val < n + 16) :
    (oM.access (Rect.unit (s := S8192) a S16.size ha)).write (Elt F) O (fun x => R (place hn x)) Finset.univ j = R j := by
  subst ea
  by_cases h : j ∈ (oM.access (Rect.unit (s := S8192) ![n] S16.size ha)).set
  · obtain ⟨x, -, rfl⟩ := Finset.mem_map.mp h
    refine (View.write_emb_of_mem _ _ (Finset.mem_univ _)).trans (congrArg R ?_)
    funext k
    obtain rfl : k = 0 := Subsingleton.elim (α := Fin 1) _ _
    apply Fin.ext
    show n + (x 0).val = n + 1 * (x 0).val
    omega
  · refine (View.write_of_not_mem _ _ _ h).trans (hO j ?_)
    rw [View.set_slice_whole, Rect.mem_set_unit] at h
    by_contra hc
    refine h fun k => ?_
    obtain rfl : k = 0 := Subsingleton.elim (α := Fin 1) _ _
    exact ⟨by show n ≤ (j 0).val; omega, hj⟩

/-- A group of sixteen lanes from place `n`, its rows' words those of the places' features: sixteen more results. -/
theorem wp_group (T : Vec F S64000 .f32) (X : Vec F S8192 .f32) {n : ℕ} (hn : n + 16 ≤ 8192) {a b : Fin 1 → ℕ} (ea : a = ![n]) (eb : b = ![n])
    (ha : ∀ k, a k + S16.size k ≤ S8192.size k) (hb : ∀ k, b k + S16.size k ≤ S8192.size k) {fb lo hi : IVec S16 32}
    (hfb : ∀ x, fb x = rowWord (n + (x 0).val)) (hlo : ∀ x, lo x = IntOp.addi (fb x) 1#32) (hhi : ∀ x, hi x = IntOp.addi (fb x) 999#32) :
    doneTo d L T X n ⊢ wp frame (wpE (defs₀ (F := F)) 𝒱₀ (thr d L) none) Set.univ (group L tabM xM oM fb lo hi a b ha hb)
      fun _ => doneTo d L T X (n + 16) := by
  have hle : ∀ x, (fb x).toNat ≤ 63000 := fun x => by rw [hfb]; exact rowWord_le _
  have hs : ∀ (xv : Vec F S16 .f32) x, minsi (maxsi (fun x => steps.foldl (step T (xv x)) (addi fb (broadcast S16 511#32) x)) lo) hi x = slot T (xv x) (fb x) := by
    intro xv x
    show IntOp.minsi (IntOp.maxsi _ (lo x)) (hi x) = _
    rw [hlo, hhi]; rfl
  unfold doneTo
  iintro ⟨HT, HX, %O, %hO, HO⟩
  unfold group
  simp only [Prog.lift, Prog.bind_op, Prog.bind_ret]
  iapply (wp_load 𝒱₀ (thr d L) none Set.univ (m := xM) (S := Finset.univ) (Finset.subset_univ _)) $$ HX
  iintro HX
  rw [readAt_group hn ea ha X]
  iapply (wp_chain d L T (fun x => X (place hn x)) hle steps (addi fb (broadcast S16 511#32))
    fun x => ⟨511, start_toNat (hle x), fits_steps⟩)
  isplitl [HT]; · iexact HT
  iintro HT
  have hp := hs fun x => X (place hn x)
  have h₁ := chk_of_lt fun x => by
    have := (slot_lt T (X (place hn x)) (hle x)).1
    rwa [← hp] at this
  have h₂ := chk_of_lt (g := subi (minsi (maxsi (fun x => steps.foldl (step T (X (place hn x))) (addi fb (broadcast S16 511#32) x)) lo) hi) (broadcast S16 1#32)) fun x => by
    have := (slot_lt T (X (place hn x)) (hle x)).2
    rwa [← hp] at this
  rw [wp_assume_of _ _ _ _ h₁, wp_assume_of _ _ _ _ h₂]
  iapply (wp_gather d L T h₂)
  isplitl [HT]; · iexact HT
  iintro HT
  iapply (wp_gather d L T h₁)
  isplitl [HT]; · iexact HT
  iintro HT
  iapply (wp_load 𝒱₀ (thr d L) none Set.univ (m := oM) (S := Finset.univ) (Finset.subset_univ _)) $$ HO
  iintro HO
  iapply (wp_store 𝒱₀ (thr d L) none Set.univ (m := oM) (r := Rect.unit (s := S8192) b S16.size hb) (Mk := Finset.univ) (S := Finset.univ)
    (Finset.subset_univ _)) $$ HO
  iintro HO
  rw [wp_ret]; imodintro
  isplitl [HT]; · iexact HT
  isplitl [HX]; · iexact HX
  iexists _
  isplitr
  rotate_left
  · iexact HO
  · ipureintro
    intro j hj
    rw [← write_group hn eb hb O (blockOut T X) hO j hj]
    refine congrFun (View.write_congr_on (v := oM.access (Rect.unit (s := S8192) b S16.size hb)) (M := Finset.univ) fun x _ => ?_) j
    exact (lane_of_slot inv T _ (hp x)).trans (congrArg (lane inv T (X (place hn x))) (hfb x))

/-! ## A block -/

/-- Sixty-four places from a multiple of sixty-four: the lanes of the group at the `k`th have the features `k + ` their own numbers. -/
theorem rowWord_lane (t k : ℕ) (hk : k ≤ 48) (x : S16.Idx) :
    muli (addi (iota .scVector S16 32 [0] iota_S16_d0_w32_scVector) (broadcast S16 (BitVec.ofNat 32 k))) (broadcast S16 1000#32) x
      = rowWord (64 * t + k + (x 0).val) := by
  have hx : (x 0).val < 16 := (x 0).isLt
  apply BitVec.eq_of_toNat_eq
  rw [rowWord_toNat]
  show ((BitVec.ofNat 32 (0 * 16 + (x 0).val) + BitVec.ofNat 32 k) * 1000#32).toNat = _
  rw [BitVec.toNat_mul, BitVec.toNat_add, BitVec.toNat_ofNat, BitVec.toNat_ofNat, BitVec.toNat_ofNat,
    Nat.mod_eq_of_lt (show 0 * 16 + (x 0).val < 2 ^ 32 by omega), Nat.mod_eq_of_lt (show k < 2 ^ 32 by omega),
    Nat.mod_eq_of_lt (show 0 * 16 + (x 0).val + k < 2 ^ 32 by omega), show (64 * t + k + (x 0).val) % 64 = k + (x 0).val by omega]
  omega

theorem pay62_eq (t : ℕ) (x : S16.Idx) : k0_pay62 x = rowWord (64 * t + (x 0).val) := rowWord_lane t 0 (by decide) x
theorem pay63_eq (t : ℕ) (x : S16.Idx) : k0_pay63 x = rowWord (64 * t + 16 + (x 0).val) := rowWord_lane t 16 (by decide) x
theorem pay64_eq (t : ℕ) (x : S16.Idx) : k0_pay64 x = rowWord (64 * t + 32 + (x 0).val) := rowWord_lane t 32 (by decide) x
theorem pay65_eq (t : ℕ) (x : S16.Idx) : k0_pay65 x = rowWord (64 * t + 48 + (x 0).val) := rowWord_lane t 48 (by decide) x

/-- One trip over a block, at the buffers the tile's launch gives it. -/
abbrev trip2 (t : Fin k0_t2_loop.trips) (u : Unit) : Prog (TpuEff nD τ sig (Elt F) Λ₀ (thr d L).2) Unit :=
  k0_t2_body L (Memref.whole main_v0_scv) (Memref.isWhole_whole _) (Memref.whole main_v1_scv) (Memref.isWhole_whole _)
    (Memref.whole main_v2_scv) (Memref.isWhole_whole _) tabM (Memref.isWhole_whole _) xM (Memref.isWhole_whole _) oM (Memref.isWhole_whole _)
    cc0_scratch3 cc0_scratch4 cc0_scoped0 cc0_scoped1 cc0_scoped2
    k0_pay62 k0_pay63 k0_pay64 k0_pay65 k0_pay66 k0_pay67 k0_pay68 k0_pay69 k0_pay70 k0_pay71 k0_pay72 k0_pay73 t u

/-- Two runs in a row, the first's end the second's start. -/
theorem wp_then {A B C : sProp 𝕄} {p q : Prog (TpuEff nD τ sig (Elt F) Λ₀ (thr d L).2) Unit}
    (hp : A ⊢ wp frame (wpE (defs₀ (F := F)) 𝒱₀ (thr d L) none) Set.univ p fun _ => B)
    (hq : B ⊢ wp frame (wpE (defs₀ (F := F)) 𝒱₀ (thr d L) none) Set.univ q fun _ => C) :
    A ⊢ wp frame (wpE (defs₀ (F := F)) 𝒱₀ (thr d L) none) Set.univ (p >>= fun _ => q) fun _ => C := by
  rw [wp_bind]
  exact hp.trans (wp_mono frame _ _ fun _ => hq)

/-- A trip puts sixty-four more results in place. -/
theorem wp_trip2 (T : Vec F S64000 .f32) (X : Vec F S8192 .f32) (t : Fin k0_t2_loop.trips) (u : Unit) :
    doneTo d L T X (64 * t.val) ⊢ wp frame (wpE (defs₀ (F := F)) 𝒱₀ (thr d L) none) Set.univ (trip2 d L t u)
      fun _ => doneTo d L T X (64 * (t.val + 1)) := by
  have ht : t.val < 128 := t.isLt
  have e : 64 * (t.val + 1) = 64 * t.val + 48 + 16 := by omega
  rw [e]
  unfold trip2
  rw [t2_body_eq]
  refine wp_then d L (wp_group d L T X (by omega) (k0_off2_eq t) (k0_off3_eq t 0) _ _ (pay62_eq t) (fun _ => rfl) (fun _ => rfl)) ?_
  refine wp_then d L (wp_group d L T X (by omega) (k0_off3_eq t 1) (k0_off4_eq t 0) _ _ (pay63_eq t) (fun _ => rfl) (fun _ => rfl)) ?_
  refine wp_then d L (wp_group d L T X (by omega) (k0_off4_eq t 1) (k0_off5_eq t 0) _ _ (pay64_eq t) (fun _ => rfl) (fun _ => rfl)) ?_
  exact wp_group d L T X (by omega) (k0_off5_eq t 1) (k0_off6_eq t) _ _ (pay65_eq t) (fun _ => rfl) (fun _ => rfl)

/-- The loop over a block: from any out block to the block's results. -/
theorem wp_block {α : Type} {Q : α → sProp 𝕄} (T : Vec F S64000 .f32) (X O : Vec F S8192 .f32)
    {k : Unit → Prog (TpuEff nD τ sig (Elt F) Λ₀ (thr d L).2) α} :
    iprop(tabPts d L T ∗ xPts d L X ∗ oPts d L O
        ∗ (tabPts d L T -∗ xPts d L X -∗ oPts d L (blockOut T X) -∗ wp frame (wpE (defs₀ (F := F)) 𝒱₀ (thr d L) none) Set.univ (k ()) Q))
      ⊢ wp frame (wpE (defs₀ (F := F)) 𝒱₀ (thr d L) none) Set.univ (Scf.Loop.for k0_t2_loop k0_t2_ok ⟨⟩ (trip2 d L) >>= k) Q := by
  iintro ⟨HT, HX, HO, Hk⟩
  iapply (Scf.wp_for_bind frame (wpE (defs₀ (F := F)) 𝒱₀ (thr d L) none) Set.univ _ _ _ k0_t2_ok ⟨⟩ (trip2 d L)
    (fun n _ => doneTo d L T X (64 * n)) fun t u => wp_trip2 d L T X t u) $$ [HT HX HO]
  · unfold doneTo
    isplitl [HT]; · iexact HT
    isplitl [HX]; · iexact HX
    iexists O
    isplitr
    · ipureintro; intro j hj; exact absurd hj (Nat.not_lt_zero _)
    · iexact HO
  · iintro %u HI
    unfold doneTo
    icases HI with ⟨HT, HX, %O', %hO, HO⟩
    obtain rfl : O' = blockOut T X := funext fun j => hO j (j 0).isLt
    iapply Hk $$ [HT] [HX] [HO]
    · iexact HT
    · iexact HX
    · iexact HO

end Cert.Proof.KernelIdeal

end
-- ==== Proof.KernelIdealTile.lean ====
/-
  A tile's task of the quantile kernel: the table fetched once, then sixty-four blocks of 8192 values each fetched, run
  through the inner loop (KernelIdealGroup.lean `wp_block`) and copied out to its places in the result. At the end the tile's
  chunk of the result holds, at each place, the lane's result of that place's value.
-/
module

public import proofs.«01_k».proof.Proof.KernelIdealGroup

@[expose] public section

noncomputable section

namespace Cert.Proof.KernelIdeal

open Cert.KernelIdeal Cert.KernelIdeal.Gen Cert.Quantile

open Idealize.ShloMosaic
open Idealize.ShloMosaic.SparseCore (S V T)
open Idealize.ShloMosaic.SparseCore.Cfg (HIx Pay ownBufs ownSems0 ownCells ownRefs mem_ownCells mem_ownRefs mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! ## The arrays in the large memory, as a tile addresses them -/

abbrev xV : Memref sig .scVector .hbm S16777216 .f32 := Memref.whole main_v0_scv
abbrev qV : Memref sig .scVector .hbm S64000 .f32 := Memref.whole main_v1_scv
abbrev rV : Memref sig .scVector .hbm S16777216 .f32 := Memref.whole main_v2_scv

/-- What the flat result holds: at each place the lane's result of the place's value and feature. -/
def flatOut (T : Vec F S64000 .f32) (X : Vec F S16777216 .f32) : Vec F S16777216 .f32 := fun p => lane inv T (X p) (rowWord (p 0).val)

variable (d : Dev nD) (L : grid0.Coords)

/-- The tile's number among the thirty-two, and its half-million places. -/
def tileNo : ℕ := 2 * (L 1).val + (L 0).val
def chunkOf (w : ℕ) : Finset S16777216.Idx := Finset.univ.filter fun p => (p 0).val / 524288 = w

/-- Block `t` of the tile's chunk. -/
abbrev blkRect (t : Fin k0_t1_loop.trips) : Rect S16777216 := Rect.unit (s := S16777216) (k0_off1 L t) S8192.size (k0_off1_inb L t)
abbrev xBlk (t : Fin k0_t1_loop.trips) : Memref sig .scVector .hbm S8192 .f32 := xV.slice (blkRect L t) (fun _ => rfl)
abbrev rBlk (t : Fin k0_t1_loop.trips) : Memref sig .scVector .hbm S8192 .f32 := rV.slice (blkRect L t) (fun _ => rfl)

abbrev trip1 (t : Fin k0_t1_loop.trips) (u : Unit) : Prog (TpuEff nD τ sig (Elt F) Λ₀ (thr d L).2) Unit :=
  k0_t1_body L xV (Memref.isWhole_whole _) qV (Memref.isWhole_whole _)
    rV (Memref.isWhole_whole _) tabM (Memref.isWhole_whole _) xM (Memref.isWhole_whole _) oM (Memref.isWhole_whole _)
    cc0_scratch3 cc0_scratch4 cc0_scoped0 cc0_scoped1 cc0_scoped2
    k0_pay62 k0_pay63 k0_pay64 k0_pay65 k0_pay66 k0_pay67 k0_pay68 k0_pay69 k0_pay70 k0_pay71 k0_pay72 k0_pay73 t u

/-- What the outer loop keeps: the table, the two blocks at anything, the values of the large memory at the share `q`,
    the chunk of the result with its first `n` blocks in place, the copies' counters at zero. -/
def blocksTo (q : PosShare TreeShare) (T : Vec F S64000 .f32) (X : Vec F S16777216 .f32) (O : CellTallies nD τ sig (HIx 1)) (W : Waits sig (HIx 1)) (n : ℕ) : sProp 𝕄 :=
  iprop(Transfers.MayWaits (thr d L) (none : HIx 1) O
    ∗ tabPts d L T ∗ (∃ B, xM.view.loc (thr d L) ↦{fullShare} B) ∗ (∃ B, oM.view.loc (thr d L) ↦{fullShare} B)
    ∗ (xV.view.loc (thr d L) ↦{q} X)
    ∗ (∃ R : Vec F S16777216 .f32, ⌜∀ p : S16777216.Idx, (p 0).val / 524288 = tileNo L → (p 0).val < 524288 * tileNo L + 8192 * n → R p = flatOut T X p⌝
        ∗ (rV.view.loc (thr d L) ↦[chunkOf (tileNo L)]{fullShare} R))
    ∗ semVal (thr d L, SemLoc.dma cc0_scoped1.sem) 0
    ∗ semVal (thr d L, SemLoc.dma cc0_scoped2.sem) 0
    ∗ ∃ W', ⌜∀ p ∈ W', p ∈ W ∨ p.2 = none⌝ ∗ owes (thr d L) O W')

omit [FloatOps F] [Named F] in
/-- Block `t` starts at the chunk's start and `t` blocks more. -/
theorem off1_at (t : Fin k0_t1_loop.trips) : k0_off1 L t 0 = 524288 * tileNo L + 8192 * t.val := by
  rw [k0_off1_eq]
  show 1048576 * (L 1).val + 524288 * (L 0).val + 8192 * t.val = _
  unfold tileNo; omega

omit [FloatOps F] [Named F] in
theorem mem_blk (t : Fin k0_t1_loop.trips) (p : S16777216.Idx) :
    p ∈ (rBlk L t).view.set ↔ 524288 * tileNo L + 8192 * t.val ≤ (p 0).val ∧ (p 0).val < 524288 * tileNo L + 8192 * (t.val + 1) := by
  rw [show (rBlk L t).view.set = (blkRect L t).set from View.set_slice_whole _ _, Rect.mem_set_unit]
  have o := off1_at L t
  constructor
  · intro h
    obtain ⟨h1, h2⟩ : k0_off1 L t 0 ≤ (p 0).val ∧ (p 0).val < k0_off1 L t 0 + 8192 := h 0
    rw [o] at h1 h2
    exact ⟨h1, lt_of_lt_of_eq h2 (by rw [Nat.add_assoc, Nat.mul_succ])⟩
  · rintro ⟨h1, h2⟩ k
    obtain rfl : k = 0 := Subsingleton.elim (α := Fin 1) _ _
    show k0_off1 L t 0 ≤ (p 0).val ∧ (p 0).val < k0_off1 L t 0 + 8192
    rw [o]
    exact ⟨h1, lt_of_lt_of_eq h2 (by rw [Nat.add_assoc, Nat.mul_succ])⟩

omit [FloatOps F] [Named F] in
theorem blk_subset (t : Fin k0_t1_loop.trips) : (rBlk L t).view.set ⊆ chunkOf (tileNo L) := by
  intro p hp
  have ht : t.val < 64 := t.isLt
  have := (mem_blk L t p).mp hp
  refine Finset.mem_filter.mpr ⟨Finset.mem_univ _, ?_⟩
  omega

omit [FloatOps F] [Named F] in
theorem blk_emb (t : Fin k0_t1_loop.trips) (j : S8192.Idx) :
    ((rBlk L t).view.emb j 0).val = 524288 * tileNo L + 8192 * t.val + (j 0).val := by
  rw [← off1_at]
  show k0_off1 L t 0 + 1 * (j 0).val = _
  omega

/-- A block's result is the flat result's at the block's places. -/
theorem blockOut_flat (T : Vec F S64000 .f32) (X : Vec F S16777216 .f32) (t : Fin k0_t1_loop.trips) (j : S8192.Idx) :
    blockOut T (fun j => X ((rBlk L t).view.emb j)) j = flatOut T X ((rBlk L t).view.emb j) := by
  unfold blockOut flatOut
  refine congrArg (lane inv T _) ?_
  unfold rowWord
  rw [blk_emb, show (524288 * tileNo L + 8192 * t.val + (j 0).val) % 64 = (j 0).val % 64 by omega]

theorem wp_trip1 (q : PosShare TreeShare) (T : Vec F S64000 .f32) (X : Vec F S16777216 .f32) (O : CellTallies nD τ sig (HIx 1)) (W : Waits sig (HIx 1))
    (t : Fin k0_t1_loop.trips) (u : Unit) :
    blocksTo d L q T X O W t.val ⊢ wp frame (wpE (defs₀ (F := F)) 𝒱₀ (thr d L) none) Set.univ (trip1 d L t u)
      fun _ => blocksTo d L q T X O W (t.val + 1) := by
  unfold blocksTo trip1 k0_t1_body
  iintro ⟨Hmw, HT, ⟨%B, HX⟩, ⟨%B', HO⟩, Hx, ⟨%R, %hR, Hr⟩, Hs1, Hs2, %W', %hW', HW⟩
  sl_exec (disch := exact View.amount_pos _ _ (show 0 < S8192.numel by decide))
  have eX : View.write (Elt F) xM.view B (wp_trip1.sl.dma0 L X t) Finset.univ = fun j => X ((rBlk L t).view.emb j) :=
    View.write_whole_univ _ _ _
  rw [eX]
  iapply (wp_block d L T (fun j => X ((rBlk L t).view.emb j)) B')
  isplitl [HT]; · iexact HT
  isplitl [HX]; · iexact HX
  isplitl [HO]; · iexact HO
  iintro HT HX HO
  ihave Hr' := (pointsTo_split_subset (blk_subset L t)).1 $$ Hr
  icases Hr' with ⟨Hb, Hrest⟩
  ihave HO' : (oM.view.loc (thr d L) ↦{fullShare} blockOut T (fun j => X ((rBlk L t).view.emb j))) $$ [HO]
  · iexact HO
  ihave Hb' : ((rBlk L t).view.loc (thr d L) ↦[(rBlk L t).view.set]{fullShare} R) $$ [Hb]
  · iexact Hb
  sl_exec (disch := exact View.amount_pos _ _ (show 0 < S8192.numel by decide))
  rw [wp_ret]; imodintro
  isplitl [Hmw]; · iexact Hmw
  isplitl [HT]; · iexact HT
  isplitl [HX]; · iexists _; iexact HX
  isplitl [HO']; · iexists _; iexact HO'
  isplitl [Hx]; · iexact Hx
  isplitl [Hb' Hrest]
  · have hin : ∀ p ∈ (rBlk L t).view.set, (rBlk L t).view.writes (Elt F) R [⟨Rect.whole S8192, wp_trip1.sl.dma0_1 L T X t⟩] p = flatOut T X p := by
      intro p hp
      obtain ⟨j, -, rfl⟩ := Finset.mem_map.mp hp
      rw [← blockOut_flat L T X t j]
      have ej : (rBlk L t).view.emb j = ((rBlk L t).view.slice (Rect.whole S8192)).emb j :=
        congrArg (rBlk L t).view.emb (Rect.emb_whole_apply S8192 j).symm
      rw [ej]
      exact View.write_emb_of_mem _ _ (Finset.mem_univ _)
    have hout : ∀ p ∈ chunkOf (tileNo L) \ (rBlk L t).view.set, R p = (rBlk L t).view.writes (Elt F) R [⟨Rect.whole S8192, wp_trip1.sl.dma0_1 L T X t⟩] p := by
      intro p hp
      show R p = ((rBlk L t).view.slice (Rect.whole S8192)).write (Elt F) R (wp_trip1.sl.dma0_1 L T X t) Finset.univ p
      refine (View.write_of_not_mem (v := (rBlk L t).view.slice (Rect.whole S8192)) R _ Finset.univ (i := p) fun h => (Finset.mem_sdiff.mp hp).2 ?_).symm
      obtain ⟨j, -, rfl⟩ := Finset.mem_map.mp h
      exact Finset.mem_map.mpr ⟨(Rect.whole S8192).emb j, Finset.mem_univ _, rfl⟩
    iexists (rBlk L t).view.writes (Elt F) R [⟨Rect.whole S8192, wp_trip1.sl.dma0_1 L T X t⟩]
    isplitr
    · ipureintro
      intro p hp hlt
      by_cases h : p ∈ (rBlk L t).view.set
      · exact hin p h
      · rw [← hout p (Finset.mem_sdiff.mpr ⟨Finset.mem_filter.mpr ⟨Finset.mem_univ _, hp⟩, h⟩)]
        refine hR p hp ?_
        by_contra hc
        exact h ((mem_blk L t p).mpr ⟨not_lt.mp hc, hlt⟩)
    · iapply (pointsTo_split_subset (blk_subset L t)).2
      isplitl [Hb']; · iexact Hb'
      iapply (Entails.of_eq (pointsTo_congr (ℓ := rV.view.loc (thr d L)) (q := fullShare) hout))
      iexact Hrest
  isplitl [Hs1]; · iexact Hs1
  isplitl [Hs2]; · iexact Hs2
  iexists _; isplitr
  rotate_left
  · iexact HW
  · ipureintro; intro p hp
    rcases Finset.mem_insert.mp hp with hp | hp
    · exact .inr (hp ▸ rfl)
    rcases Finset.mem_insert.mp hp with hp | hp
    · exact .inr (hp ▸ rfl)
    · exact hW' p hp

/-- The outer loop and the program's end: every block in place. -/
theorem wp_blocks {Q : Unit → sProp 𝕄} (q : PosShare TreeShare) (T : Vec F S64000 .f32) (X : Vec F S16777216 .f32) (O : CellTallies nD τ sig (HIx 1)) (W : Waits sig (HIx 1))
    {k : Unit → Prog (TpuEff nD τ sig (Elt F) Λ₀ (thr d L).2) Unit} :
    iprop(blocksTo d L q T X O W 0 ∗ (blocksTo d L q T X O W 64 -∗ wp frame (wpE (defs₀ (F := F)) 𝒱₀ (thr d L) none) Set.univ (k ()) Q))
      ⊢ wp frame (wpE (defs₀ (F := F)) 𝒱₀ (thr d L) none) Set.univ (Scf.Loop.for k0_t1_loop k0_t1_ok ⟨⟩ (trip1 d L) >>= k) Q := by
  iintro ⟨HI, Hk⟩
  iapply (Scf.wp_for_bind frame (wpE (defs₀ (F := F)) 𝒱₀ (thr d L) none) Set.univ _ _ _ k0_t1_ok ⟨⟩ (trip1 d L)
    (fun n _ => blocksTo d L q T X O W n) fun t u => wp_trip1 d L q T X O W t u) $$ HI
  iintro %u HI
  iapply Hk $$ [HI]
  iexact HI

/-! ## The task -/

abbrev tableSem : GSem nD τ sig := (thr d L, .dma cc0_scoped0.sem)
abbrev inSem : GSem nD τ sig := (thr d L, .dma cc0_scoped1.sem)
abbrev outSem : GSem nD τ sig := (thr d L, .dma cc0_scoped2.sem)

omit [FloatOps F] [Named F] in
theorem cell_own {a : DmaSem sig} (h : (SemLoc.dma a : SemLoc sig).isScoped .scVector = true) : ((thr d L, .dma a) : GSem nD τ sig) ∈ ownCells (thr d L) :=
  mem_ownCells.mpr ⟨rfl, h⟩

omit [FloatOps F] [Named F] in
theorem cell_ne {a b : DmaSem sig} (h : a ≠ b) : ((thr d L, .dma a) : GSem nD τ sig) ≠ (thr d L, .dma b) :=
  fun e => h (SemLoc.dma.inj (congrArg Prod.snd e))

/-- The tile's own counters but the three its copies use. -/
abbrev otherCells : Finset (GSem nD τ sig) := (((ownCells (thr d L)).erase (tableSem d L)).erase (inSem d L)).erase (outSem d L)

omit [FloatOps F] [Named F] in
theorem own_cells :
    (ownSems0 (thr d L) : sProp 𝕄)
      = iprop(semVal (tableSem d L) 0 ∗ semVal (inSem d L) 0 ∗ semVal (outSem d L) 0 ∗ bigSep (otherCells d L) fun g => semVal g 0) := by
  unfold SparseCore.Cfg.ownSems0
  rw [SparseCore.bigSep_erase' (cell_own d L (a := cc0_scoped0.sem) (by decide)),
    SparseCore.bigSep_erase' (Finset.mem_erase.mpr ⟨cell_ne d L (by decide), cell_own d L (a := cc0_scoped1.sem) (by decide)⟩),
    SparseCore.bigSep_erase' (Finset.mem_erase.mpr ⟨cell_ne d L (by decide),
      Finset.mem_erase.mpr ⟨cell_ne d L (by decide), cell_own d L (a := cc0_scoped2.sem) (by decide)⟩⟩)]

omit [FloatOps F] [Named F] in
theorem buf_ne {a b : Ref sig .scVector} (h : a ≠ b) : (thr d L).2.devRef a ≠ (thr d L).2.devRef b :=
  fun e => h (Proc.devRef_injective _ e)

abbrev otherBufs : Finset (DevRef τ sig) :=
  (((ownRefs (τ := τ) (thr d L).2).erase ((thr d L).2.devRef cc0_scratch0)).erase ((thr d L).2.devRef cc0_scratch1)).erase ((thr d L).2.devRef cc0_scratch2)

omit [FloatOps F] [Named F] in
theorem own_bufs :
    (ownBufs (thr d L) : sProp 𝕄)
      = iprop((∃ f, tabPts d L f) ∗ (∃ f, xPts d L f) ∗ (∃ f, oPts d L f)
          ∗ bigSep (otherBufs d L) fun b => iprop(∃ f, ((d, b) : Loc nD τ sig) ↦{fullShare} f)) := by
  unfold SparseCore.Cfg.ownBufs
  refine (SparseCore.bigSep_erase' (mem_ownRefs_of_owner (p := (thr d L).2) (b := (thr d L).2.devRef cc0_scratch0) rfl)).trans ?_
  rw [SparseCore.bigSep_erase' (Finset.mem_erase.mpr ⟨buf_ne d L (by decide), mem_ownRefs_of_owner (p := (thr d L).2) (b := (thr d L).2.devRef cc0_scratch1) rfl⟩),
    SparseCore.bigSep_erase' (Finset.mem_erase.mpr ⟨buf_ne d L (by decide),
      Finset.mem_erase.mpr ⟨buf_ne d L (by decide), mem_ownRefs_of_owner (p := (thr d L).2) (b := (thr d L).2.devRef cc0_scratch2) rfl⟩⟩)]
  rfl

/-- What a task is handed and hands back: a share of the values and of the table, its chunk of the result at `R`. -/
def tileRes (q q' : PosShare TreeShare) (T : Vec F S64000 .f32) (X R : Vec F S16777216 .f32) : sProp 𝕄 :=
  iprop((xV.view.loc (thr d L) ↦{q} X) ∗ (qV.view.loc (thr d L) ↦{q'} T) ∗ (rV.view.loc (thr d L) ↦[chunkOf (tileNo L)]{fullShare} R))

abbrev K : SparseCore.Cfg τ sig (Pipeline.Sig Λ₀ (Fin 0) fun p => (pcfgs (F := F) p).Adm) 1 := sc (F := F)

/-- The task's program: the table's copy, its wait, the outer loop. -/
abbrev tileProg : Prog (TpuEff nD τ sig (Elt F) Λ₀ (thr d L).2) Unit :=
  cc0__body L xV (Memref.isWhole_whole _) qV (Memref.isWhole_whole _) rV (Memref.isWhole_whole _)
    tabM (Memref.isWhole_whole _) xM (Memref.isWhole_whole _) oM (Memref.isWhole_whole _)
    cc0_scratch3 cc0_scratch4 cc0_scoped0 cc0_scoped1 cc0_scoped2

set_option maxRecDepth 65536 in
theorem tileProg_eq : tileProg (F := F) d L
    = (do
      Prog.lift (.enqueueDma qV (.here tabM) (.dma cc0_scoped0.sem) (Memref.isWhole_whole _).wordExact (Memref.isWhole_whole _).wordExact ⟨Or.inl rfl, trivial⟩)
      Prog.lift (.waitDma2 cc0_scoped0.sem qV tabM (Memref.isWhole_whole _).wordExact (Memref.isWhole_whole _).wordExact)
      Scf.Loop.for k0_t1_loop k0_t1_ok ⟨⟩ (trip1 d L)
      pure ⟨⟩) := rfl

/-- The task: its chunk of the result ends at the flat result. -/
theorem tile_body (hF : (K (F := F)).Facts) (q q' : PosShare TreeShare) (T : Vec F S64000 .f32) (X R : Vec F S16777216 .f32)
    (O : CellTallies nD τ sig (HIx 1)) (W : Waits sig (HIx 1)) (hO : ∀ g, O g none = 0) :
    iprop(levAts (K (F := F)).L (K (F := F)).lev ∗ emp ∗ tileRes d L q q' T X R
        ∗ scopedBufs (thr d L) ∗ scopedSems0 (thr d L) ∗ owes (thr d L) O W)
      ⊢ wp frame (wpE (defs₀ (F := F)) 𝒱₀ (thr d L) none) Set.univ
          (tileProg d L)
          fun _ => iprop(tileRes d L q q' T X (flatOut T X) ∗ scopedBufs (thr d L) ∗ scopedSems0 (thr d L)
            ∗ ∃ W', ⌜∀ p ∈ W', p ∈ W ∨ p.2 = none⌝ ∗ owes (thr d L) O W') := by
  rw [tileProg_eq]
  unfold tileRes
  rw [(K (F := F)).scopedBufs_V hF d _ _, SparseCore.Cfg.scopedSems0_V (Val := Elt F) d _ _, own_cells, own_bufs]
  iintro ⟨#Hlv, -, ⟨Hx, Hq, Hr⟩, ⟨⟨%fT, HT⟩, ⟨%fX, HX⟩, ⟨%fO, HO⟩, Hbufs⟩, ⟨Hs0, Hs1, Hs2, Hsems⟩, HW⟩
  ihave Hmw := ((K (F := F)).mayWaits_none (thr := thr d L) hO) $$ Hlv
  ihave HT' : (tabM.view.loc (thr d L) ↦{fullShare} fT) $$ [HT]
  · iexact HT
  sl_exec
  have eT : View.write (Elt F) tabM.view fT (tile_body.sl.dma0 T) Finset.univ = T := View.write_whole_univ _ _ _
  rw [eT]
  iapply (wp_blocks d L q T X O W)
  unfold blocksTo
  isplitl [Hmw HT' HX HO Hx Hr Hs1 Hs2 HW]
  · isplitl [Hmw]; · iexact Hmw
    isplitl [HT']; · iexact HT'
    isplitl [HX]; · iexists fX; iexact HX
    isplitl [HO]; · iexists fO; iexact HO
    isplitl [Hx]; · iexact Hx
    isplitl [Hr]
    · iexists R; isplitr
      · ipureintro; intro p hp hlt
        exact absurd (Nat.div_lt_of_lt_mul (show (p 0).val < 524288 * tileNo L from hlt)) (by rw [hp]; exact lt_irrefl _)
      · iexact Hr
    isplitl [Hs1]; · iexact Hs1
    isplitl [Hs2]; · iexact Hs2
    iexists _; isplitr
    rotate_left
    · iexact HW
    · ipureintro; intro p hp
      rcases Finset.mem_insert.mp hp with hp | hp
      · exact .inr (hp ▸ rfl)
      · exact .inl hp
  iintro ⟨-, HT, ⟨%fX', HX⟩, ⟨%fO', HO⟩, Hx, ⟨%R', %hR, Hr⟩, Hs1, Hs2, HW⟩
  simp only [Prog.pure_eq_ret]
  rw [wp_ret]; imodintro
  isplitl [Hx Hq Hr]
  · isplitl [Hx]; · iexact Hx
    isplitl [Hq]; · iexact Hq
    have e : ∀ p ∈ chunkOf (tileNo L), R' p = flatOut T X p := fun p hp => by
      have hc := (Finset.mem_filter.mp hp).2
      refine hR p hc ((Nat.lt_mul_of_div_lt (lt_of_eq_of_lt hc (Nat.lt_succ_self _)) (by decide)).trans_eq ?_)
      rw [Nat.succ_mul, Nat.mul_comm]
    iapply (Entails.of_eq (pointsTo_congr (ℓ := rV.view.loc (thr d L)) (q := fullShare) e))
    iexact Hr
  isplitl [HT HX HO Hbufs]
  · isplitl [HT]; · iexists T; iexact HT
    isplitl [HX]; · iexists fX'; iexact HX
    isplitl [HO]; · iexists fO'; iexact HO
    iexact Hbufs
  isplitl [Hs0 Hs1 Hs2 Hsems]
  · isplitl [Hs0]; · iexact Hs0
    isplitl [Hs1]; · iexact Hs1
    isplitl [Hs2]; · iexact Hs2
    iexact Hsems
  iexact HW

end Cert.Proof.KernelIdeal

end
-- ==== Proof.KernelIdealRun.lean ====
/-
  The whole program of the quantile kernel: the launch, the TensorCore's host code around the call, and the run. The
  values and the table go out to the thirty-two tiles as read shares, the result as thirty-two disjoint chunks; back
  come the same shares and the chunks of the flat result. The run says what every array ends at.
-/
module

public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.KernelIdealTile

@[expose] public section

noncomputable section

namespace Cert.Proof.KernelIdeal

open Cert.KernelIdeal Cert.KernelIdeal.Gen Cert.Quantile

open Idealize.ShloMosaic
open Idealize.ShloMosaic.SparseCore (S V T)
open Idealize.ShloMosaic.SparseCore.Cfg (HIx Pay)
open Idealize.ShloMosaic.StableHlo (held held_split held_sdiff_result wp_hlo_within)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F] [Named F]

/-! ## The program as the launch theorem sees it -/

abbrev D : Defs nD τ sig (Elt F) (Pipeline.Sig Λ₀ (Fin 0) fun p => (pcfgs (F := F) p).Adm) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds, the left factor; the copies' counters are found in the right. -/
abbrev EH : Emb UH (MT nD τ sig (HIx 1) (Elt F) ℕ UU ℕ) := embL

/-! ## How the arrays are dealt out -/

def coordsV (c : Fin (grid0.bound 0)) (s : Fin (grid0.bound 1)) : grid0.Coords :=
  fun | 0 => c | 1 => s | ⟨_ + 2, h⟩ => absurd h (Nat.not_lt.2 (Nat.le_add_left _ _))

abbrev xLoc (d : Dev nD) : Loc nD τ sig := (SparseCore.T d).loc main_v0
abbrev qLoc (d : Dev nD) : Loc nD τ sig := (SparseCore.T d).loc main_v1
abbrev rLoc (d : Dev nD) : Loc nD τ sig := (SparseCore.T d).loc main_v2

/-- The read share of SparseCore `c`, and out of it that of its tile `i`. -/
def coreShare (c : Fin 2) : PosShare TreeShare := Transfers.dealOf fullShare Finset.univ c
def tileShare (c : Fin 2) (i : Fin 16) : PosShare TreeShare := Transfers.dealOf (coreShare c) Finset.univ i

/-- The chunks of SparseCore `c`'s tiles. -/
def coreSet (c : Fin 2) : Finset S16777216.Idx := Finset.univ.biUnion fun i : Fin 16 => chunkOf (2 * i.val + c.val)

omit [FloatOps F] [Named F] in
theorem chunks_disjoint {v w : ℕ} (h : v ≠ w) : Disjoint (chunkOf v) (chunkOf w) :=
  Finset.disjoint_filter.mpr fun _ _ hv hw => h (hv.symm.trans hw)

theorem tiles_disjoint (c : Fin 2) : ∀ i ∈ (Finset.univ : Finset (Fin 16)), ∀ j ∈ (Finset.univ : Finset (Fin 16)), i ≠ j →
    Disjoint (chunkOf (2 * i.val + c.val)) (chunkOf (2 * j.val + c.val)) := fun i _ j _ h =>
  chunks_disjoint fun e => h (Fin.ext (by omega))

theorem mem_coreSet (c : Fin 2) (p : S16777216.Idx) : p ∈ coreSet c ↔ (p 0).val / 524288 % 2 = c.val := by
  have hp : (p 0).val / 524288 < 32 := Nat.div_lt_of_lt_mul (p 0).isLt
  have hc := c.isLt
  generalize hw : (p 0).val / 524288 = w at hp
  simp only [coreSet, chunkOf, Finset.mem_biUnion, Finset.mem_univ, Finset.mem_filter, true_and, hw]
  constructor
  · rintro ⟨i, hi⟩; omega
  · intro h; exact ⟨⟨w / 2, by omega⟩, show w = 2 * (w / 2) + c.val by omega⟩

theorem cores_disjoint : ∀ a ∈ (Finset.univ : Finset (Fin 2)), ∀ b ∈ (Finset.univ : Finset (Fin 2)), a ≠ b → Disjoint (coreSet a) (coreSet b) :=
  fun a _ b _ h => Finset.disjoint_left.mpr fun p ha hb => h (Fin.ext (((mem_coreSet a p).mp ha).symm.trans ((mem_coreSet b p).mp hb)))

theorem cores_cover : (Finset.univ : Finset (Fin 2)).biUnion coreSet = Finset.univ :=
  Finset.eq_univ_iff_forall.mpr fun p => Finset.mem_biUnion.mpr
    ⟨⟨(p 0).val / 524288 % 2, Nat.mod_lt _ Nat.two_pos⟩, Finset.mem_univ _, (mem_coreSet _ p).mpr rfl⟩

/-- What SparseCore `c` is handed and hands back: its shares of the values and the table, its chunks of the result at `R`. -/
def coreRes (d : Dev nD) (c : Fin 2) (T : Vec F S64000 .f32) (X R : Vec F S16777216 .f32) : sProp 𝕄 :=
  iprop((xLoc d ↦{coreShare c} X) ∗ (qLoc d ↦{coreShare c} T) ∗ (rLoc d ↦[coreSet c]{fullShare} R))

/-- It is what its sixteen tiles are handed. -/
theorem coreRes_tiles (d : Dev nD) (c : Fin 2) (T : Vec F S64000 .f32) (X R : Vec F S16777216 .f32) :
    (coreRes d c T X R : sProp 𝕄) = bigSep Finset.univ fun i : Fin 16 => tileRes d (coordsV c i) (tileShare c i) (tileShare c i) T X R := by
  show _ = bigSep Finset.univ fun i : Fin 16 => iprop((xLoc d ↦{tileShare c i} X) ∗ (qLoc d ↦{tileShare c i} T)
    ∗ (rLoc d ↦[chunkOf (2 * i.val + c.val)]{fullShare} R))
  unfold coreRes tileShare coreSet
  rw [bigSep_sep', bigSep_sep', pointsTo_biUnion Finset.univ (ℓ := rLoc d) _ (tiles_disjoint c),
    ← Transfers.pointsTo_deal (ℓ := xLoc d) Finset.univ Finset.univ_nonempty, ← Transfers.pointsTo_deal (ℓ := qLoc d) Finset.univ Finset.univ_nonempty]

/-- The three arrays whole are what the two SparseCores are handed. -/
theorem arrays_cores (d : Dev nD) (T : Vec F S64000 .f32) (X R : Vec F S16777216 .f32) :
    (iprop((xLoc d ↦{fullShare} X) ∗ (qLoc d ↦{fullShare} T) ∗ (rLoc d ↦{fullShare} R)) : sProp 𝕄)
      = bigSep Finset.univ fun c : Fin 2 => coreRes d c T X R := by
  unfold coreRes coreShare
  rw [bigSep_sep', bigSep_sep', ← pointsTo_biUnion Finset.univ (ℓ := rLoc d) _ cores_disjoint, cores_cover,
    ← Transfers.pointsTo_deal (ℓ := xLoc d) Finset.univ Finset.univ_nonempty, ← Transfers.pointsTo_deal (ℓ := qLoc d) Finset.univ Finset.univ_nonempty]

/-! ## What the handshakes carry -/

variable (m : (ℓ : Loc nD τ sig) → Buf (Elt F) ℓ) (ρ : Dev nD → PrngReg)

/-- The values and the table as the call reads them: the arguments laid out flat. -/
def flatX (d : Dev nD) : Vec F S16777216 .f32 := shapeCast S16777216 (m ((SparseCore.T d).loc main_arg0)) shapeCasts_S262144x64_S16777216
def flatQ (d : Dev nD) : Vec F S64000 .f32 := shapeCast S64000 (m ((SparseCore.T d).loc main_arg1)) shapeCasts_S64x1000_S64000

/-- The result array: the flat result laid out by rows. -/
def outArr (d : Dev nD) : Vec F S262144x64 .f32 := shapeCast S262144x64 (flatOut (flatQ m d) (flatX m d)) shapeCasts_S16777216_S262144x64

instance coreRes_storable (d : Dev nD) (c : Fin 2) (T : Vec F S64000 .f32) (X R : Vec F S16777216 .f32) :
    BI.Storable (upEmb : UEmb _ 𝕄) (coreRes d c T X R) := by unfold coreRes; infer_instance
instance tileRes_storable (d : Dev nD) (L : grid0.Coords) (q q' : PosShare TreeShare) (T : Vec F S64000 .f32) (X R : Vec F S16777216 .f32) :
    BI.Storable (upEmb : UEmb _ 𝕄) (tileRes d L q q' T X R) := by unfold tileRes; infer_instance

def P : (K (F := F)).Pay (nD := nD) (Val := Elt F) (Name := ℕ) (U := UU) where
  st := fun q d c => match q with | 0 => coreRes d c (flatQ m d) (flatX m d) (m (rLoc d))
  dn := fun q d c => match q with | 0 => coreRes d c (flatQ m d) (flatX m d) (flatOut (flatQ m d) (flatX m d))
  go := fun q d c i => match q with | 0 => tileRes d (coordsV c i) (tileShare c i) (tileShare c i) (flatQ m d) (flatX m d) (m (rLoc d))
  td := fun q d c i => match q with | 0 => tileRes d (coordsV c i) (tileShare c i) (tileShare c i) (flatQ m d) (flatX m d) (flatOut (flatQ m d) (flatX m d))
  x := fun _ _ => iprop(emp)

instance P_storable : (P (F := F) m).IsStorable where
  st q d c := match q with | 0 => coreRes_storable d c _ _ _
  dn q d c := match q with | 0 => coreRes_storable d c _ _ _
  go q d c i := match q with | 0 => tileRes_storable d _ _ _ _ _ _
  td q d c i := match q with | 0 => tileRes_storable d _ _ _ _ _ _

/-! ## The launch theorem's obligations -/

theorem defs₀_vector (c : Fin τ.nSC) (s : Fin τ.nSub) :
    defs₀ (F := F) (.scVector c s) 0 () = SparseCore.onTile hcore0 hsub0 (fun c s => cc0__body (coordsV c s)
      xV (Memref.isWhole_whole _) qV (Memref.isWhole_whole _) rV (Memref.isWhole_whole _)
      tabM (Memref.isWhole_whole _) xM (Memref.isWhole_whole _) oM (Memref.isWhole_whole _)
      cc0_scratch3 cc0_scratch4 cc0_scoped0 cc0_scoped1 cc0_scoped2) ⟨⟩ c s := rfl

omit [FloatOps F] [Named F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- Every tile's task, at its own coordinates. -/
theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body d (coordsV ⟨_, hc.1⟩ ⟨_, hc.2⟩) facts (tileShare c i) (tileShare c i) (flatQ m d) (flatX m d) (m (rLoc d)) O W hO).trans
    (wp_mono frame _ _ fun _ => obl_post)

/-- A SparseCore's part splits among its tiles, and theirs make it up again. -/
theorem vecSplit : (K (F := F)).VecSplit' (P m) 0 := by
  intro d c
  show coreRes d c (flatQ m d) (flatX m d) (m (rLoc d)) ⊢ |={Set.univ}=> iprop(
      (bigSep (Finset.univ : Finset (Fin 16)) fun i => tileRes d (coordsV c i) (tileShare c i) (tileShare c i) (flatQ m d) (flatX m d) (m (rLoc d)))
      ∗ ((bigSep (Finset.univ : Finset (Fin 16)) fun i => tileRes d (coordsV c i) (tileShare c i) (tileShare c i) (flatQ m d) (flatX m d)
            (flatOut (flatQ m d) (flatX m d)))
          -∗ coreRes d c (flatQ m d) (flatX m d) (flatOut (flatQ m d) (flatX m d))))
  rw [← coreRes_tiles, ← coreRes_tiles]
  iintro H; imodintro
  isplitl [H]; · iexact H
  iintro H; iexact H

/-! ## The launch element: the handshakes' rounds alone -/

def u₀ : UU := (initOf (K (F := F)).hsCells (K (F := F)).hsToks, 1)

omit [FloatOps F] [Named F] in
theorem all_emp {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [all_emp]; iempintro
  unfold P; dsimp only
  rw [show (bigSep Finset.univ fun _ : Thread nD τ => bigSep Finset.univ fun _ : Fin 1 => (iprop(emp) : sProp 𝕄)) = iprop(emp) from by
    rw [bigSep_congr fun _ _ => all_emp _, all_emp]]
  iempintro

/-! ## The host code on the TensorCore -/

abbrev dr (b : Ref sig .tc) : DevRef τ sig := Proc.devRef .tc b

/-- The TensorCore's arrays, all unscoped. -/
abbrev S7 : Finset (DevRef τ sig) := {dr main_arg0, dr main_arg1, dr main_arg2, dr main_v0, dr main_v1, dr main_v2, dr main_v3}

abbrev opX : HloOp τ sig (Elt F) := StableHlo.reshape main_arg0 main_v0 (rfl : (.f32 : EltTy) = .f32) shapeCasts_S262144x64_S16777216
abbrev opQ : HloOp τ sig (Elt F) := StableHlo.reshape main_arg1 main_v1 (rfl : (.f32 : EltTy) = .f32) shapeCasts_S64x1000_S64000
abbrev opR : HloOp τ sig (Elt F) := StableHlo.reshape main_v2 main_v3 (rfl : (.f32 : EltTy) = .f32) shapeCasts_S16777216_S262144x64

omit [FloatOps F] [Named F] in
theorem held_S7 (d : Dev nD) (W : Valuation τ sig (Elt F)) :
    (held (T d) S7 W : sProp 𝕄) = iprop(((SparseCore.T d).loc main_arg0 ↦{fullShare} W (dr main_arg0)) ∗ ((SparseCore.T d).loc main_arg1 ↦{fullShare} W (dr main_arg1))
      ∗ ((SparseCore.T d).loc main_arg2 ↦{fullShare} W (dr main_arg2)) ∗ (xLoc d ↦{fullShare} W (dr main_v0)) ∗ (qLoc d ↦{fullShare} W (dr main_v1))
      ∗ (rLoc d ↦{fullShare} W (dr main_v2)) ∗ (SparseCore.T d).loc main_v3 ↦{fullShare} W (dr main_v3)) := by
  unfold held S7
  rw [SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]

/-- The valuation at the launch, before the call, after it and at the end. -/
def V0 (d : Dev nD) : Valuation τ sig (Elt F) := fun b => m (d, b)
def V1 (d : Dev nD) : Valuation τ sig (Elt F) := opX.result (V0 m d)
def V2 (d : Dev nD) : Valuation τ sig (Elt F) := opQ.result (V1 m d)
def V3 (d : Dev nD) : Valuation τ sig (Elt F) := Function.update (V2 m d) (dr main_v2) (flatOut (flatQ m d) (flatX m d))
def V4 (d : Dev nD) : Valuation τ sig (Elt F) := opR.result (V3 m d)

theorem unscoped_held (d : Dev nD) : (unscopedBufs d (fun b => m ((SparseCore.T d).loc b)) : sProp 𝕄) = held (T d) S7 (V0 m d) := by
  rw [held_S7]
  unfold unscopedBufs
  rw [show (Finset.univ.filter fun b : Ref sig .tc => ¬ b.isScoped) = {main_arg0, main_arg1, main_arg2, main_v0, main_v1, main_v2, main_v3} by decide,
    SparseCore.bigSep_insert' (by decide), SparseCore.bigSep_insert' (by decide), SparseCore.bigSep_insert' (by decide),
    SparseCore.bigSep_insert' (by decide), SparseCore.bigSep_insert' (by decide), SparseCore.bigSep_insert' (by decide), bigSep_singleton]
  rfl

/-- What the first two reshapes leave of an array they don't write. -/
theorem V2_keep (d : Dev nD) {b : Ref sig .tc} (h0 : b ≠ main_v0) (h1 : b ≠ main_v1) : V2 m d (dr b) = m ((SparseCore.T d).loc b) := by
  unfold V2 V1
  rw [StableHlo.reshape_result_ne' _ _ _ _ _ h1, StableHlo.reshape_result_ne' _ _ _ _ _ h0]; rfl
theorem V2_x (d : Dev nD) : V2 m d (dr main_v0) = flatX m d := by
  unfold V2 V1
  rw [StableHlo.reshape_result_ne' _ _ _ _ _ (show main_v0 ≠ main_v1 by decide), StableHlo.reshape_result']; rfl
theorem V2_q (d : Dev nD) : V2 m d (dr main_v1) = flatQ m d := by
  unfold V2 V1
  rw [StableHlo.reshape_result', StableHlo.reshape_result_ne' _ _ _ _ _ (show main_arg1 ≠ main_v0 by decide)]; rfl

theorem V3_ne (d : Dev nD) {b : Ref sig .tc} (h : dr b ≠ dr main_v2) : V3 m d (dr b) = V2 m d (dr b) := Function.update_of_ne h _ _
theorem V3_r (d : Dev nD) : V3 m d (dr main_v2) = flatOut (flatQ m d) (flatX m d) := Function.update_self _ _ _

theorem V4_keep (d : Dev nD) {b : Ref sig .tc} (h0 : b ≠ main_v0) (h1 : b ≠ main_v1) (h2 : dr b ≠ dr main_v2) (h3 : b ≠ main_v3) :
    V4 m d (dr b) = m ((SparseCore.T d).loc b) := by
  unfold V4
  rw [StableHlo.reshape_result_ne' _ _ _ _ _ h3, V3_ne m d h2, V2_keep m d h0 h1]
theorem V4_out (d : Dev nD) : V4 m d (dr main_v3) = outArr m d := by
  unfold V4
  rw [StableHlo.reshape_result', V3_r]; rfl

/-- What the host code leaves the claim: the arguments as they were, the result array. -/
abbrev FIN (d : Dev nD) : sProp 𝕄 :=
  iprop(((SparseCore.T d).loc main_arg0 ↦{fullShare} m ((SparseCore.T d).loc main_arg0)) ∗ ((SparseCore.T d).loc main_arg1 ↦{fullShare} m ((SparseCore.T d).loc main_arg1))
    ∗ ((SparseCore.T d).loc main_arg2 ↦{fullShare} m ((SparseCore.T d).loc main_arg2)) ∗ (SparseCore.T d).loc main_v3 ↦{fullShare} outArr m d)

theorem st0_eq (d : Dev nD) : (bigSep Finset.univ fun c : Fin ((K (F := F)).nCore 0) => (P m).st 0 d c)
    = iprop((xLoc d ↦{fullShare} flatX m d) ∗ (qLoc d ↦{fullShare} flatQ m d) ∗ (rLoc d ↦{fullShare} m (rLoc d))) := (arrays_cores d _ _ _).symm
theorem dn0_eq (d : Dev nD) : (bigSep Finset.univ fun c : Fin ((K (F := F)).nCore 0) => (P m).dn 0 d c)
    = iprop((xLoc d ↦{fullShare} flatX m d) ∗ (qLoc d ↦{fullShare} flatQ m d) ∗ (rLoc d ↦{fullShare} flatOut (flatQ m d) (flatX m d))) := (arrays_cores d _ _ _).symm

/-- The host code: two reshapes, the call, the last reshape. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := opX) (S := S7) (show ({dr main_arg0, dr main_v0} : Finset (DevRef τ sig)) ⊆ S7 by decide) (V := V0 m d)) $$ [Hb Hheld]
  · isplitl [Hb]; · iexact Hb
    iexact Hheld
  iintro ⟨Hb, Hheld⟩
  rw [wp_ret]; imodintro
  iapply (wp_hlo_within 𝒱 (SparseCore.T d) none Set.univ (op := opQ) (S := S7) (show ({dr main_arg1, dr main_v1} : Finset (DevRef τ sig)) ⊆ S7 by decide) (V := V1 m d)) $$ [Hb Hheld]
  · isplitl [Hb]; · iexact Hb
    iexact Hheld
  iintro ⟨Hb, Hheld⟩
  rw [wp_ret]; imodintro
  ihave Hh := (Entails.of_eq (held_S7 (F := F) d (V2 m d))) $$ [Hheld]
  · iexact Hheld
  rw [V2_x, V2_q, V2_keep m d (b := main_arg0) (by decide) (by decide), V2_keep m d (b := main_arg1) (by decide) (by decide),
    V2_keep m d (b := main_arg2) (by decide) (by decide), V2_keep m d (b := main_v2) (by decide) (by decide), V2_keep m d (b := main_v3) (by decide) (by decide)]
  icases Hh with ⟨H0, H1, H2, Hx, Hq, Hr, H3⟩
  iapply ((K (F := F)).wp_run (D (F := F)) 𝒱 (EH := EH) (P := P m) κ d 0) $$ [Hst Hx Hq Hr Hb H0 H1 H2 H3 Hts]
  isplitr; · iexact Hctx
  isplitl [Hst]; · iexact Hst
  isplitl [Hx Hq Hr]
  · rw [st0_eq]
    isplitl [Hx]; · iexact Hx
    isplitl [Hq] <;> iassumption
  iintro ⟨Hst, Hdn⟩
  ihave Hdn' := (Entails.of_eq (dn0_eq m d)) $$ Hdn
  icases Hdn' with ⟨Hx, Hq, Hr⟩
  iapply (wp_hlo_within 𝒱 (SparseCore.T d) none Set.univ (op := opR) (S := S7) (show ({dr main_v2, dr main_v3} : Finset (DevRef τ sig)) ⊆ S7 by decide) (V := V3 m d))
    $$ [Hb Hx Hq Hr H0 H1 H2 H3]
  · isplitl [Hb]; · iexact Hb
    rw [held_S7, V3_r, V3_ne m d (b := main_arg0) (by decide), V3_ne m d (b := main_arg1) (by decide), V3_ne m d (b := main_arg2) (by decide),
      V3_ne m d (b := main_v0) (by decide), V3_ne m d (b := main_v1) (by decide), V3_ne m d (b := main_v3) (by decide),
      V2_x, V2_q, V2_keep m d (b := main_arg0) (by decide) (by decide), V2_keep m d (b := main_arg1) (by decide) (by decide),
      V2_keep m d (b := main_arg2) (by decide) (by decide), V2_keep m d (b := main_v3) (by decide) (by decide)]
    isplitl [H0]; · iexact H0
    isplitl [H1]; · iexact H1
    isplitl [H2]; · iexact H2
    isplitl [Hx]; · iexact Hx
    isplitl [Hq]; · iexact Hq
    isplitl [Hr] <;> iassumption
  iintro ⟨Hb, Hheld⟩
  ihave Hh := (Entails.of_eq (held_S7 (F := F) d (V4 m d))) $$ [Hheld]
  · iexact Hheld
  rw [V4_out, V4_keep m d (b := main_arg0) (by decide) (by decide) (by decide) (by decide), V4_keep m d (b := main_arg1) (by decide) (by decide) (by decide) (by decide),
    V4_keep m d (b := main_arg2) (by decide) (by decide) (by decide) (by decide)]
  icases Hh with ⟨H0, H1, H2, -, -, -, H3⟩
  rw [wp_ret]; imodintro; imodintro
  isplitl [Hst]; · iexact Hst
  isplitr [Hb Hts]
  · isplitl [H0]; · iexact H0
    isplitl [H1]; · iexact H1
    isplitl [H2] <;> iassumption
  isplitl [Hb] <;> iassumption

/-! ## The run -/

/-- What the program leaves on a device: its three arguments as they were, and the result array. -/
def Ends (d : Dev nD) (mem : (ℓ : Loc nD τ sig) → Buf (Elt F) ℓ) : Prop :=
  mem ((SparseCore.T d).loc main_arg0) = m ((SparseCore.T d).loc main_arg0) ∧ mem ((SparseCore.T d).loc main_arg1) = m ((SparseCore.T d).loc main_arg1)
    ∧ mem ((SparseCore.T d).loc main_arg2) = m ((SparseCore.T d).loc main_arg2) ∧ mem ((SparseCore.T d).loc main_v3) = outArr m d

omit [FloatOps F] [Named F] in
/-- An array held whole is what the memory holds there. -/
theorem held_mem {ℓ : Loc nD τ sig} {f : Buf (Elt F) ℓ} (s' : Phys nD τ sig (Elt F)) :
    iprop((ℓ ↦{fullShare} f) ∗ SI s') ⊢ (⌜s'.mem.mem ℓ = f⌝ : sProp 𝕄) := by
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜Ends m d s'.mem.mem⌝ : sProp 𝕄) := by
  have h0 : iprop(FIN m d ∗ SI s') ⊢ (⌜s'.mem.mem ((SparseCore.T d).loc main_arg0) = m ((SparseCore.T d).loc main_arg0)⌝ : sProp 𝕄) := by
    refine BIBase.Entails.trans ?_ (held_mem (ℓ := (SparseCore.T d).loc main_arg0) (f := m ((SparseCore.T d).loc main_arg0)) s')
    iintro ⟨⟨H, -, -, -⟩, HSI⟩; isplitl [H] <;> iassumption
  have h1 : iprop(FIN m d ∗ SI s') ⊢ (⌜s'.mem.mem ((SparseCore.T d).loc main_arg1) = m ((SparseCore.T d).loc main_arg1)⌝ : sProp 𝕄) := by
    refine BIBase.Entails.trans ?_ (held_mem (ℓ := (SparseCore.T d).loc main_arg1) (f := m ((SparseCore.T d).loc main_arg1)) s')
    iintro ⟨⟨-, H, -, -⟩, HSI⟩; isplitl [H] <;> iassumption
  have h2 : iprop(FIN m d ∗ SI s') ⊢ (⌜s'.mem.mem ((SparseCore.T d).loc main_arg2) = m ((SparseCore.T d).loc main_arg2)⌝ : sProp 𝕄) := by
    refine BIBase.Entails.trans ?_ (held_mem (ℓ := (SparseCore.T d).loc main_arg2) (f := m ((SparseCore.T d).loc main_arg2)) s')
    iintro ⟨⟨-, -, H, -⟩, HSI⟩; isplitl [H] <;> iassumption
  have h3 : iprop(FIN m d ∗ SI s') ⊢ (⌜s'.mem.mem ((SparseCore.T d).loc main_v3) = outArr m d⌝ : sProp 𝕄) := by
    refine BIBase.Entails.trans ?_ (held_mem (ℓ := (SparseCore.T d).loc main_v3) (f := outArr m d) s')
    iintro ⟨⟨-, -, -, H⟩, HSI⟩; isplitl [H] <;> iassumption
  exact fun n h => ⟨h0 n h, h1 n h, h2 n h, h3 n h⟩

def QC : PUnit × MemSt nD τ sig (Elt F) → Prop := fun r => (∀ c : Dev nD, Ends m c r.2.mem) ∧ r.2.sem = fun _ => 0

/-- Every run of the program ends, with the arguments as they were, the result array at its value and every semaphore at zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fun d s' => Ends m d s'.mem.mem) (hfin m) (QC m) (fun _ h hz => ⟨h, hz⟩)

end Cert.Proof.KernelIdeal

end
-- ==== Proof.Reference.lean ====
/-
  The reference's result, entry by entry. Its printed term is one long composition; here it is the same term built from
  named parts: how many quantiles of a row lie below each value, that count clipped to a slot, the quantiles and the
  positions taken at the slot and at the one before it, and the interpolation between them.
-/
module

public import proofs.«01_k».proof.Proof.Gen.ReferenceIdeal.Run
public import Idealize.ShloMosaic.Lib.ValueIdxCore
public import Idealize.ShloMosaic.Lib.ReduceAll
public import Idealize.ShloMosaic.Lib.Pipeline.Value
public import Idealize.ShloMosaic.Lib.WordSum

@[expose] public section

noncomputable section

namespace Cert.Quantile.Reference

open Cert.ReferenceIdeal Cert.ReferenceIdeal.Gen Idealize.ShloMosaic Idealize.ShloMosaic.TcCoe Idealize.SL.Sem Idealize.ShloMosaic.ValueIdx

variable {F : FTy → Type} [FloatOps F]

/-! ## The parts -/

/-- A scalar at every entry of the transposed values' shape. -/
abbrev spread {α : Type} (v : S_.Idx → α) : S64x262144.Idx → α := broadcastInDim S64x262144 ![] bcast_S_S64x262144 v

/-- The values, feature first. -/
abbrev byFeature (x : FVec F S262144x64 .f32) : FVec F S64x262144 .f32 :=
  transpose S64x262144 [1, 0] x transposes_S262144x64_S64x262144_1_0

/-- Which quantiles of its row lie below each value. -/
def marks (x : FVec F S262144x64 .f32) (q : FVec F S64x1000 .f32) : IVec S64x262144x1000 1 :=
  cmpf .olt
    (broadcastInDim S64x262144x1000 ![0, 1, 2] bcast_S64x1x1000_S64x262144x1000_0_1_2
      (broadcastInDim S64x1x1000 ![0, 2] bcast_S64x1000_S64x1x1000_0_2 q))
    (broadcastInDim S64x262144x1000 ![0, 1, 2] bcast_S64x262144x1_S64x262144x1000_0_1_2
      (broadcastInDim S64x262144x1 ![0, 1] bcast_S64x262144_S64x262144x1_0_1 (byFeature x)))

/-- How many do. -/
def count (x : FVec F S262144x64 .f32) (q : FVec F S64x1000 .f32) : IVec S64x262144 32 :=
  Host.reduce IntOp.addi (extui 32 (marks x q) natLt_1_32) (constantI S_ 32 0#32) reducesTo_S64x262144x1000_S64x262144_d2 h_S_

/-- The count clipped to a slot with a quantile on either side. -/
def upper (x : FVec F S262144x64 .f32) (q : FVec F S64x1000 .f32) : IVec S64x262144 32 :=
  minsi (spread (id (constantI S_ 32 999#32))) (maxsi (spread (id (constantI S_ 32 1#32))) (count x q))

/-- The slot before it. -/
def lower (x : FVec F S262144x64 .f32) (q : FVec F S64x1000 .f32) : IVec S64x262144 32 :=
  subi (upper x q) (spread (constantI S_ 32 1#32))

/-- A negative slot counted from the row's end. -/
def wrap (g : IVec S64x262144 32) : IVec S64x262144 32 :=
  select (cmpi .slt g (spread (constantI S_ 32 0#32))) (addi g (spread (constantI S_ 32 1000#32))) g

/-- The slots as a gather's indices. -/
abbrev column (g : IVec S64x262144 32) : IVec S64x262144x1 32 :=
  shapeCast S64x262144x1 g shapeCasts_S64x262144_S64x262144x1

/-- Which slots are in the row. -/
def inRow (g : IVec S64x262144 32) : IVec S64x262144 1 :=
  Host.reduce IntOp.andi
    (andi (cmpi .sge (column (wrap g)) (broadcastInDim S64x262144x1 ![] bcast_S_S64x262144x1 (constantI S_ 32 0#32)))
      (cmpi .sle (column (wrap g))
        (broadcastInDim S64x262144x1 ![0, 1, 2] bcast_S1x1x1_S64x262144x1_0_1_2
          (broadcastInDim S1x1x1 ![2] bcast_S1_S1x1x1_2 (constantI S1 32 999#32)))))
    (constantI S_ 1 1#1) reducesTo_S64x262144x1_S64x262144_d2 h_S_

/-- The quantiles at the slots, each in its feature's row. -/
def quantileAt (q : FVec F S64x1000 .f32) (g : IVec S64x262144 32) : FVec F S64x262144 .f32 :=
  select (inRow g) (Host.gather gather_S64x1000_S64x262144x1_S64x262144_n_1_0_0_1_2_11 q (column (wrap g)))
    (spread (constant S_ .f32 0x7FC00000#32))

/-- The positions at the slots. -/
def positionAt (p : FVec F S1000 .f32) (g : IVec S64x262144 32) : FVec F S64x262144 .f32 :=
  Host.gather gather_S1000_S64x262144x1_S64x262144_n_0_n_n_0_2_1 p
    (broadcastInDim S64x262144x1 ![0, 1] bcast_S64x262144_S64x262144x1_0_1 (wrap g))

/-- A value clipped to the unit interval. -/
def unit (y : FVec F S64x262144 .f32) : FVec F S64x262144 .f32 :=
  minimumf (spread (id (constant S_ .f32 0x3F800000#32))) (maximumf (spread (id (constant S_ .f32 0x00000000#32))) y)

/-- A gap between quantiles, or one where it is tiny. -/
def safe (d : FVec F S64x262144 .f32) : FVec F S64x262144 .f32 :=
  select (cmpf .olt (Host.absf d) (spread (constant S_ .f32 0x2EDBE6FF#32))) (spread (constant S_ .f32 0x3F800000#32)) d

/-- How far between its two quantiles each value lies. -/
def fraction (x : FVec F S262144x64 .f32) (q : FVec F S64x1000 .f32) : FVec F S64x262144 .f32 :=
  unit (Host.divf (subf (byFeature x) (quantileAt q (lower x q)))
    (safe (subf (quantileAt q (upper x q)) (quantileAt q (lower x q)))))

/-- The result. -/
def result (x : FVec F S262144x64 .f32) (q : FVec F S64x1000 .f32) (p : FVec F S1000 .f32) : FVec F S262144x64 .f32 :=
  transpose S262144x64 [1, 0]
    (unit (addf (positionAt p (lower x q))
      (mulf (fraction x q) (subf (positionAt p (upper x q)) (positionAt p (lower x q))))))
    transposes_S64x262144_S262144x64_1_0

set_option maxRecDepth 8192 in
/-- The printed term is this composition. -/
theorem out_eq (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) := rfl

/-! ## The parts, entry by entry -/

theorem byFeature_apply (x : FVec F S262144x64 .f32) (j : S64x262144.Idx) : byFeature x j = x (ix2 (j 1) (j 0)) :=
  transpose_apply _ _ _ _ _ fun b => by fin_cases b <;> rfl

theorem marks_apply (x : FVec F S262144x64 .f32) (q : FVec F S64x1000 .f32) (i : S64x262144x1000.Idx) :
    marks x q i = FloatOps.cmpf .olt (q (ix2 (i 0) (i 2))) (x (ix2 (i 1) (i 0))) := by
  unfold marks
  rw [cmpf_apply]
  congr 1
  · rw [broadcastInDim_apply ![0, 1, 2] _ _ i (ix3 (i 0) 0 (i 2) : S64x1x1000.Idx) (fun a => by fin_cases a <;> rfl),
      broadcastInDim_apply ![0, 2] _ _ _ (ix2 (i 0) (i 2) : S64x1000.Idx) (fun a => by fin_cases a <;> rfl)]
  · rw [broadcastInDim_apply ![0, 1, 2] _ _ i (ix3 (i 0) (i 1) 0 : S64x262144x1.Idx) (fun a => by fin_cases a <;> rfl),
      broadcastInDim_apply ![0, 1] _ _ _ (ix2 (i 0) (i 1) : S64x262144.Idx) (fun a => by fin_cases a <;> rfl), byFeature_apply]

/-- How many quantiles of feature `f` lie below the value `v`. -/
def rank (q : FVec F S64x1000 .f32) (f : Fin 64) (v : F .f32) : ℕ :=
  (Finset.univ.filter fun k : Fin 1000 => FloatOps.cmpf .olt (q (ix2 f k)) v = 1#1).card

theorem rank_le (q : FVec F S64x1000 .f32) (f : Fin 64) (v : F .f32) : rank q f v ≤ 1000 :=
  (Finset.card_filter_le _ _).trans (by simp)

/-- A mark as a word is one or zero. -/
theorem mark_toNat (b : BitVec 1) : (b.setWidth 32).toNat = if b = 1#1 then 1 else 0 := by
  revert b; decide

theorem count_toNat (x : FVec F S262144x64 .f32) (q : FVec F S64x1000 .f32) (j : S64x262144.Idx) :
    (count x q j).toNat = rank q (j 0) (x (ix2 (j 1) (j 0))) := by
  have hR : S64x262144x1000.Reduces [2] S64x262144 := by decide
  have hl : ∀ k, hR.lift j k = (ix3 (j 0) (j 1) k : S64x262144x1000.Idx) := fun k => funext fun a => Fin.ext (by
    rw [hR.lift_val]; fin_cases a <;> rfl)
  have hk : ∀ k, ((extui 32 (marks x q) natLt_1_32 ∘ hR.lift j) k).toNat
      = if FloatOps.cmpf .olt (q (ix2 (j 0) k)) (x (ix2 (j 1) (j 0))) = 1#1 then 1 else 0 := fun k => by
    rw [Function.comp_apply, hl, extui_apply, mark_toNat, marks_apply]
  unfold count
  rw [Host.reduce_eq_fold_single IntOp.addi _ _ _ hR]
  have hs : ∑ k, ((extui 32 (marks x q) natLt_1_32 ∘ hR.lift j) k).toNat = rank q (j 0) (x (ix2 (j 1) (j 0))) := by
    refine (Finset.sum_congr rfl fun k _ => hk k).trans ?_
    exact (Finset.card_filter _ _).symm
  refine Eq.trans ?_ hs
  exact WordSum.toNat_sum _ _ (by rw [hs]; have := rank_le q (j 0) (x (ix2 (j 1) (j 0))); omega)

/-- The slot a count is clipped to. -/
def between (n : ℕ) : ℕ := max (min n 999) 1

theorem between_lt (n : ℕ) : between n < 1000 := by unfold between; omega
theorem between_pos (n : ℕ) : 0 < between n := by unfold between; omega

/-- A clip of a word between one and 999, as a number. -/
theorem clip_toNat (w : BitVec 32) (h : w.toNat ≤ 1000) : (IntOp.minsi 999#32 (IntOp.maxsi 1#32 w)).toNat = between w.toNat := by
  have hs : ∀ a b : BitVec 32, a.toNat ≤ 1000 → b.toNat ≤ 1000 → a.slt b = decide (a.toNat < b.toNat) := fun a b ha hb => by
    rw [BitVec.slt_eq_decide, BitVec.toInt_eq_toNat_of_lt (by omega), BitVec.toInt_eq_toNat_of_lt (by omega)]
    simp
  have e1 : (1#32 : BitVec 32).toNat = 1 := rfl
  have e9 : (999#32 : BitVec 32).toNat = 999 := rfl
  have hm : (IntOp.maxsi 1#32 w).toNat = max w.toNat 1 := by
    unfold IntOp.maxsi
    rw [hs _ _ h (by omega)]
    split <;> simp_all <;> omega
  unfold IntOp.minsi between
  rw [hs _ _ (by omega) (by omega), hm]
  split <;> simp_all <;> omega

theorem upper_toNat (x : FVec F S262144x64 .f32) (q : FVec F S64x1000 .f32) (j : S64x262144.Idx) :
    (upper x q j).toNat = between (rank q (j 0) (x (ix2 (j 1) (j 0)))) := by
  have h := count_toNat x q j
  exact (clip_toNat _ (h.trans_le (rank_le _ _ _))).trans (congrArg between h)

theorem lower_toNat (x : FVec F S262144x64 .f32) (q : FVec F S64x1000 .f32) (j : S64x262144.Idx) :
    (lower x q j).toNat = between (rank q (j 0) (x (ix2 (j 1) (j 0)))) - 1 := by
  have h := upper_toNat x q j
  have hp := between_pos (rank q (j 0) (x (ix2 (j 1) (j 0))))
  have hl := between_lt (rank q (j 0) (x (ix2 (j 1) (j 0))))
  have e : (lower x q j).toNat = (4294967296 - 1 + (upper x q j).toNat) % 4294967296 := BitVec.toNat_sub _ _
  rw [e, h]; omega

/-- Every slot is in its row. -/
def Within (g : IVec S64x262144 32) : Prop := ∀ j, (g j).toNat < 1000

theorem within_upper (x : FVec F S262144x64 .f32) (q : FVec F S64x1000 .f32) : Within (upper x q) := fun j => by
  rw [upper_toNat]; exact between_lt _
theorem within_lower (x : FVec F S262144x64 .f32) (q : FVec F S64x1000 .f32) : Within (lower x q) := fun j => by
  rw [lower_toNat]; exact (Nat.sub_le _ _).trans_lt (between_lt _)

/-- A word below 1000 is not negative, as a signed number. -/
theorem toInt_of_lt {w : BitVec 32} (h : w.toNat < 1000) : w.toInt = w.toNat := BitVec.toInt_eq_toNat_of_lt (by omega)

theorem wrap_eq {g : IVec S64x262144 32} (hg : Within g) : wrap g = g := by
  funext j
  have e : IntOp.cmpi .slt (g j) 0#32 = 0#1 := by
    show BitVec.ofBool ((g j).slt 0#32) = 0#1
    rw [BitVec.slt_eq_decide, toInt_of_lt (hg j)]
    rw [decide_eq_false (by simp)]; rfl
  show Scalar.select (IntOp.cmpi .slt (g j) 0#32) _ _ = _
  rw [e, select_zero]

theorem column_apply (g : IVec S64x262144 32) (i : S64x262144x1.Idx) : column g i = g (ix2 (i 0) (i 1)) :=
  shapeCast_apply _ _ _ _ (by
    rw [Shape.rowMajor_val_two, Shape.rowMajor_val_three]
    have h : (i 2).val = 0 := Nat.lt_one_iff.1 (i 2).isLt
    show (i 0).val * 262144 + (i 1).val = ((i 0).val * 262144 + (i 1).val) * 1 + (i 2).val
    omega)

theorem inRow_eq {g : IVec S64x262144 32} (hg : Within g) (j : S64x262144.Idx) : inRow g j = 1#1 := by
  unfold inRow
  rw [wrap_eq hg]
  refine Host.reduce_andi_one _ _ _ _ _ rfl fun i => ?_
  have h := hg (ix2 (i 0) (i 1))
  have e0 : IntOp.cmpi .sge (column g i) 0#32 = 1#1 := by
    show BitVec.ofBool ((0#32).sle (column g i)) = 1#1
    rw [column_apply, BitVec.sle_eq_decide, toInt_of_lt h]
    simp
  have e9 : IntOp.cmpi .sle (column g i) 999#32 = 1#1 := by
    show BitVec.ofBool ((column g i).sle 999#32) = 1#1
    rw [column_apply, BitVec.sle_eq_decide, toInt_of_lt h]
    rw [decide_eq_true (by show ((g (ix2 (i 0) (i 1))).toNat : ℤ) ≤ 999; omega)]; rfl
  show IntOp.andi (IntOp.cmpi .sge (column g i) 0#32) (IntOp.cmpi .sle (column g i) 999#32) = 1#1
  rw [e0, e9]; rfl

/-- The batched gather's operand index: the feature's row, and the slot clamped to it. -/
theorem rowGather_apply {α : Type} (q : S64x1000.Idx → α) (g : IVec S64x262144x1 32) (j : S64x262144.Idx) :
    Host.gather gather_S64x1000_S64x262144x1_S64x262144_n_1_0_0_1_2_11 q g j
      = q (ix2 (j 0) ⟨min (g (takeIdx j)).toInt.toNat 999, by omega⟩) := by
  let d := gather_S64x1000_S64x262144x1_S64x262144_n_1_0_0_1_2_11
  have one : ∀ a : Fin 2, a ∈ [a] := fun a => List.mem_singleton.mpr rfl
  have h0 : d.start j g 0 + d.batchCoord j 0 + d.offCoord j 0 = (j 0).val := by
    have hs : d.start j g 0 = 0 := GatherDims.start_batching _ _ _ _ (one 0)
    have ho : d.offCoord j 0 = 0 := GatherDims.offCoord_eq_zero _ _ _ fun h => ((GatherDims.mem_sKept _ _).mp h).2 (one 0)
    rw [hs, ho, Nat.zero_add, Nat.add_zero, GatherDims.batchCoord, dif_pos (show (0 : Fin 2) ∈ d.operandBatchingDims from one 0)]
    rfl
  have h1 : d.start j g 1 + d.batchCoord j 1 + d.offCoord j 1 = min (g (takeIdx j)).toInt.toNat 999 := by
    have hb : d.batchCoord j 1 = 0 := GatherDims.batchCoord_eq_zero _ _ _ (show (1 : Fin 2) ∉ [(0 : Fin 2)] by decide)
    have ho : d.offCoord j 1 = 0 := GatherDims.offCoord_eq_zero _ _ _ fun h => ((GatherDims.mem_sKept _ _).mp h).1 (one 1)
    have hm : (1 : Fin 2) ∈ d.startIndexMap := one 1
    have hi : d.siIdx j ⟨List.idxOf (1 : Fin 2) d.startIndexMap, List.idxOf_lt_length_iff.2 hm⟩ = takeIdx j :=
      funext fun b => Fin.ext (by fin_cases b <;> rfl)
    rw [hb, ho, Nat.add_zero, GatherDims.start, dif_pos hm, hi]
    rfl
  exact congrArg q (funext fun a => Fin.ext (by fin_cases a; exacts [h0, h1]))

/-- What a slot in its row is clamped to: itself. -/
theorem clamp_eq {w : BitVec 32} (h : w.toNat < 1000) : min w.toInt.toNat 999 = w.toNat := by
  rw [toInt_of_lt h, Int.toNat_natCast]; omega

theorem takeIdx_column (j : S64x262144.Idx) : (ix2 ((takeIdx j) 0) ((takeIdx j) 1) : S64x262144.Idx) = j :=
  (eq_ix2 j).symm

theorem quantileAt_apply (q : FVec F S64x1000 .f32) {g : IVec S64x262144 32} (hg : Within g) (j : S64x262144.Idx) :
    quantileAt q g j = q (ix2 (j 0) ⟨(g j).toNat, hg j⟩) := by
  unfold quantileAt
  rw [select_apply, inRow_eq hg, select_one, rowGather_apply, wrap_eq hg]
  refine congrArg q (congrArg (ix2 (j 0)) (Fin.ext ?_))
  show min (column g (takeIdx j)).toInt.toNat 999 = (g j).toNat
  rw [column_apply, takeIdx_column, clamp_eq (hg j)]

theorem positionAt_apply (p : FVec F S1000 .f32) {g : IVec S64x262144 32} (hg : Within g) (j : S64x262144.Idx) :
    positionAt p g j = p (ix1 ⟨(g j).toNat, hg j⟩) := by
  unfold positionAt
  rw [wrap_eq hg]
  refine (gather_take_apply (N := 1000) (R := 64) (C := 262144) (by omega) _ p _ j).trans ?_
  refine congrArg p (congrArg ix1 (Fin.ext ?_))
  show min (broadcastInDim S64x262144x1 ![0, 1] bcast_S64x262144_S64x262144x1_0_1 g (takeIdx j)).toInt.toNat 999 = (g j).toNat
  rw [broadcastInDim_apply _ _ _ (takeIdx j) j (fun a => by fin_cases a <;> rfl), clamp_eq (hg j)]

/-! ## The result, entry by entry -/

/-- A number clipped to the unit interval. -/
def unit1 (y : F .f32) : F .f32 :=
  FloatOps.minimumf (FloatOps.ofBits .f32 0x3F800000#32) (FloatOps.maximumf (FloatOps.ofBits .f32 0x00000000#32) y)

/-- The interpolation between two positions, of a value between two quantiles. -/
def value (x lo hi plo phi : F .f32) : F .f32 :=
  unit1 (FloatOps.addf plo
    (FloatOps.mulf
      (unit1 (FloatOps.hostDivf (FloatOps.subf x lo)
        (Scalar.select (FloatOps.cmpf .olt (FloatOps.hostAbsf (FloatOps.subf hi lo)) (FloatOps.ofBits .f32 0x2EDBE6FF#32))
          (FloatOps.ofBits .f32 0x3F800000#32) (FloatOps.subf hi lo))))
      (FloatOps.subf phi plo)))

theorem result_apply (x : FVec F S262144x64 .f32) (q : FVec F S64x1000 .f32) (p : FVec F S1000 .f32) (i : S262144x64.Idx)
    {n : ℕ} (hn : between (rank q (i 1) (x i)) = n) (h : n < 1000) :
    result x q p i = value (x i) (q (ix2 (i 1) ⟨n - 1, by omega⟩)) (q (ix2 (i 1) ⟨n, h⟩))
      (p (ix1 ⟨n - 1, by omega⟩)) (p (ix1 ⟨n, h⟩)) := by
  unfold result
  rw [transpose_apply _ _ _ i (ix2 (i 1) (i 0) : S64x262144.Idx) (fun b => by fin_cases b <;> rfl)]
  have hx : byFeature x (ix2 (i 1) (i 0)) = x i := (byFeature_apply x _).trans (congrArg x (eq_ix2 i).symm)
  have hn' : between (rank q (i 1) (x (ix2 (i 0) (i 1)))) = n :=
    (congrArg (fun k => between (rank q (i 1) (x k))) (eq_ix2 i).symm).trans hn
  have hu : (upper x q (ix2 (i 1) (i 0))).toNat = n := (upper_toNat x q _).trans hn'
  have hl : (lower x q (ix2 (i 1) (i 0))).toNat = n - 1 :=
    (lower_toNat x q _).trans (congrArg (· - 1) hn')
  have qu := quantileAt_apply q (within_upper x q) (ix2 (i 1) (i 0))
  have ql := quantileAt_apply q (within_lower x q) (ix2 (i 1) (i 0))
  have pu := positionAt_apply p (within_upper x q) (ix2 (i 1) (i 0))
  have pl := positionAt_apply p (within_lower x q) (ix2 (i 1) (i 0))
  simp only [hu, hl] at qu ql pu pl
  rw [← qu, ← ql, ← pu, ← pl, ← hx]
  rfl

end Cert.Quantile.Reference

end
-- ==== Proof.Consts.lean ====
/- The float constants of the quantile programs and of their precondition, as the extended reals their patterns denote. -/
module

public import Idealize.ShloMosaic.PureOps.Ideal
public import proofs.«01_k».proof.Defs

@[expose] public section

noncomputable section

namespace Cert.Quantile.Consts

open Idealize.ShloMosaic

theorem zero : Ideal.ofBits .f32 0x00000000#32 = ((0 : ℝ) : EReal) := by
  simp [Ideal.ofBits, Ideal.ieee, -EReal.coe_mul]

theorem one : Ideal.ofBits .f32 0x3F800000#32 = ((1 : ℝ) : EReal) := by
  simp [Ideal.ofBits, Ideal.ieee, -EReal.coe_mul]; norm_num

/-- The last position's index, which the precondition divides by. -/
theorem last : Ideal.ofBits .f32 0x4479C000#32 = ((999 : ℝ) : EReal) := by
  simp [Ideal.ofBits, Ideal.ieee, -EReal.coe_mul]; norm_num

/-- The kernel's named step is the real one over 999. -/
theorem step : Named.named (F := Ideal) Cert.KernelIdeal.κ "inv" (φ := .f32) 0x3A833405#32 = ((999⁻¹ : ℝ) : EReal) :=
  IdealRules.named_const.ideal_named_scalar _ _ _ _ rfl

end Cert.Quantile.Consts

end
-- ==== Proof.Equation.lean ====
/-
  The kernel's lane and the reference's entry are one number over the extended reals, where the row is sorted and the
  positions are evenly spaced. The search ends where the reference's count clips to; the step times the slot plus the
  fraction is the interpolation between two neighbouring positions.
-/
module

public import proofs.«01_k».proof.Proof.Value
public import proofs.«01_k».proof.Proof.Reference
public import proofs.«01_k».proof.Proof.Consts

@[expose] public section

noncomputable section

namespace Cert.Quantile

open Idealize.ShloMosaic Idealize.ShloMosaic.ValueIdx Cert.Quantile.Reference

/-! ## Where the search ends -/

/-- A search reads its row alone: two rows alike take it to one place. -/
theorem walk_congr {c c' : ℕ → Bool} (h : ∀ k ≤ 999, c k = c' k) :
    ∀ (l : List (ℕ × ℕ)) (n : ℕ), Fits l n → walk c l n = walk c' l n
  | [], _, _ => rfl
  | s :: l, n, hf => by
    rw [walk, walk, ← h n hf.le]
    exact walk_congr h l _ (hf.tail _)

/-- In a sorted row the entries below a value are the first ones, as many as there are. -/
theorem below_iff_lt_card {α : Type*} [LinearOrder α] {n : ℕ} {a : Fin n → α} (ha : Monotone a) (v : α) (k : Fin n) :
    a k < v ↔ k.val < (Finset.univ.filter fun i => a i < v).card := by
  constructor
  · intro h
    have hs : Finset.Iic k ⊆ Finset.univ.filter fun i => a i < v := fun i hi =>
      Finset.mem_filter.2 ⟨Finset.mem_univ _, (ha (Finset.mem_Iic.1 hi)).trans_lt h⟩
    have hc := Finset.card_le_card hs
    rw [Fin.card_Iic] at hc
    omega
  · intro h
    by_contra hn
    have hs : (Finset.univ.filter fun i => a i < v) ⊆ Finset.Iio k := fun i hi => by
      refine Finset.mem_Iio.2 (lt_of_not_ge fun hk => hn ?_)
      exact (ha hk).trans_lt (Finset.mem_filter.1 hi).2
    have hc := Finset.card_le_card hs
    rw [Fin.card_Iio] at hc
    omega

/-- Less-than over the extended reals, as the comparison's bit. -/
theorem olt_iff (a b : Ideal .f32) : FloatOps.cmpf .olt a b = 1#1 ↔ (a : EReal) < (b : EReal) := by
  show BitVec.ofBool (decide ((a : EReal) < b)) = 1#1 ↔ _
  by_cases h : (a : EReal) < b <;> simp [h]

/-- A word as a number of cells past the row's start names that cell of the row. -/
def RowOf (tab : Vec Ideal Table .f32) (q : FVec Ideal Cert.ReferenceIdeal.S64x1000 .f32) (fb : BitVec 32) (f : Fin 64) : Prop :=
  ∀ (g : BitVec 32) (k : Fin 1000), g.toNat = fb.toNat + k.val → tab (cell g) = q (ix2 f k)

/-- In a sorted row the slot is the row's start and the reference's slot. -/
theorem slot_between {tab : Vec Ideal Table .f32} {q : FVec Ideal Cert.ReferenceIdeal.S64x1000 .f32} {fb : BitVec 32} {f : Fin 64}
    (hfb : fb.toNat ≤ 63000) (hrow : RowOf tab q fb f) (hq : Monotone fun k : Fin 1000 => (q (ix2 f k) : EReal)) (x : Ideal .f32) :
    (slot tab x fb).toNat = fb.toNat + between (rank q f x) := by
  have hr : rank q f x = (Finset.univ.filter fun k : Fin 1000 => (q (ix2 f k) : EReal) < (x : EReal)).card :=
    congrArg Finset.card (Finset.filter_congr fun k _ => olt_iff _ _)
  have hb : ∀ k ≤ 999, below tab x (BitVec.ofNat 32 (fb.toNat + k)) = decide (k < rank q f x) := fun k hk => by
    have hw : (BitVec.ofNat 32 (fb.toNat + k)).toNat = fb.toNat + k := by rw [BitVec.toNat_ofNat]; omega
    unfold below
    rw [hrow _ ⟨k, by omega⟩ hw]
    refine decide_eq_decide.2 ((olt_iff _ _).trans ?_)
    rw [hr]
    exact below_iff_lt_card hq _ ⟨k, by omega⟩
  rw [slot_toNat tab x hfb, walk_congr hb _ _ fits_steps, walk_count _ (rank_le q f x)]
  rfl

/-! ## The interpolation -/

/-- A number clipped to the unit interval is a real there. -/
theorem unit1_real (y : Ideal .f32) : ∃ r : ℝ, 0 ≤ r ∧ r ≤ 1 ∧ (unit1 y : Ideal .f32) = ((r : ℝ) : EReal) := by
  have e : (unit1 y : Ideal .f32) = (min ((1 : ℝ) : EReal) (max ((0 : ℝ) : EReal) y) : EReal) := by
    unfold unit1
    rw [Ideal.minimumf_def, Ideal.maximumf_def, Ideal.ofBits_def, Ideal.ofBits_def, Consts.one, Consts.zero]
  generalize (unit1 y : Ideal .f32) = u at e
  have h1 : (u : EReal) ≤ ((1 : ℝ) : EReal) := by rw [e]; exact min_le_left _ _
  have h0 : ((0 : ℝ) : EReal) ≤ (u : EReal) := by
    rw [e]; exact le_min (EReal.coe_le_coe_iff.2 zero_le_one) (le_max_left _ _)
  have ht : (u : EReal) ≠ ⊤ := fun h => by rw [h] at h1; exact absurd (top_le_iff.1 h1) (EReal.coe_ne_top _)
  have hb : (u : EReal) ≠ ⊥ := fun h => by rw [h] at h0; exact absurd (le_bot_iff.1 h0) (EReal.coe_ne_bot _)
  have hu := EReal.coe_toReal ht hb
  refine ⟨EReal.toReal u, ?_, ?_, hu.symm⟩
  · rw [← hu] at h0; exact EReal.coe_le_coe_iff.1 h0
  · rw [← hu] at h1; exact EReal.coe_le_coe_iff.1 h1

/-- The interpolation between positions `n - 1` and `n` of a thousand evenly spaced ones, `r` of the way. -/
theorem spaced {n : ℕ} (h0 : 0 < n) (h1 : n ≤ 999) {r : ℝ} (hr0 : 0 ≤ r) (hr1 : r ≤ 1) :
    min ((((n : ℝ) : EReal) - ((1 : ℝ) : EReal) + (r : EReal)) * ((999⁻¹ : ℝ) : EReal)) ((1 : ℝ) : EReal)
      = min ((1 : ℝ) : EReal) (max ((0 : ℝ) : EReal)
          ((((n - 1 : ℕ) : ℝ) / 999 : ℝ) + (r : EReal) * (((n : ℝ) / 999 : ℝ) - (((n - 1 : ℕ) : ℝ) / 999 : ℝ) : EReal))) := by
  have hn : ((n - 1 : ℕ) : ℝ) = (n : ℝ) - 1 := by rw [Nat.cast_sub (by omega)]; simp
  have hn1 : (1 : ℝ) ≤ n := by exact_mod_cast h0
  have hn9 : (n : ℝ) ≤ 999 := by exact_mod_cast h1
  have e : (n : ℝ) - 1 + r = (n - 1) + r := rfl
  have hx : ((n : ℝ) - 1) / 999 + r * ((n : ℝ) / 999 - ((n : ℝ) - 1) / 999) = ((n : ℝ) - 1 + r) * 999⁻¹ := by ring
  have hp : (0 : ℝ) ≤ ((n : ℝ) - 1 + r) * 999⁻¹ := mul_nonneg (by linarith) (by norm_num)
  rw [hn, ← EReal.coe_sub, ← EReal.coe_add, ← EReal.coe_mul, ← EReal.coe_sub, ← EReal.coe_mul, ← EReal.coe_add, hx,
    max_eq_right (EReal.coe_le_coe_iff.2 hp), min_comm]

/-- The lane's interpolation and the reference's, at one slot of evenly spaced positions. -/
theorem interp_eq_value {fb g : BitVec 32} {n : ℕ} (hg : g.toNat = fb.toNat + n) (h0 : 0 < n) (h1 : n ≤ 999)
    (x lo hi plo phi : Ideal .f32) (hlo : plo = ((((n - 1 : ℕ) : ℝ) / 999 : ℝ) : EReal)) (hhi : phi = (((n : ℝ) / 999 : ℝ) : EReal)) :
    interp (F := Ideal) (Named.named (F := Ideal) Cert.KernelIdeal.κ "inv" (φ := .f32) 0x3A833405#32) fb g lo hi x
      = value x lo hi plo phi := by
  have hw : IntOp.subi g fb = BitVec.ofNat 32 n := by
    apply BitVec.eq_of_toNat_eq
    have e : (IntOp.subi g fb).toNat = (4294967296 - fb.toNat + g.toNat) % 4294967296 := BitVec.toNat_sub _ _
    rw [e, BitVec.toNat_ofNat]
    have := fb.isLt
    omega
  have hi' : (FloatOps.sitofp .f32 (IntOp.subi g fb) : Ideal .f32) = ((n : ℝ) : EReal) := by
    rw [hw]
    show (((BitVec.ofNat 32 n).toInt : ℝ) : EReal) = _
    rw [BitVec.toInt_eq_toNat_of_lt (by rw [BitVec.toNat_ofNat]; omega), BitVec.toNat_ofNat, Nat.mod_eq_of_lt (by omega)]
    simp
  obtain ⟨r, hr0, hr1, hr⟩ := unit1_real (FloatOps.hostDivf (FloatOps.subf x lo)
    (Scalar.select (FloatOps.cmpf .olt (FloatOps.hostAbsf (FloatOps.subf hi lo)) (FloatOps.ofBits .f32 0x2EDBE6FF#32))
      (FloatOps.ofBits .f32 0x3F800000#32) (FloatOps.subf hi lo)))
  have key : ∀ u : Ideal .f32, u = (r : EReal) →
      FloatOps.minimumf (FloatOps.mulf (FloatOps.addf (FloatOps.subf (((n : ℝ) : EReal) : Ideal .f32)
        (FloatOps.ofBits .f32 0x3F800000#32)) u) (((999⁻¹ : ℝ) : EReal) : Ideal .f32)) (FloatOps.ofBits .f32 0x3F800000#32)
      = unit1 (FloatOps.addf plo (FloatOps.mulf u (FloatOps.subf phi plo))) := by
    rintro u rfl
    rw [hlo, hhi, unit1]
    simp only [Ideal.minimumf_def, Ideal.maximumf_def, Ideal.ofBits_def, Ideal.addf_def, Ideal.subf_def, Ideal.mulf_def,
      Consts.one, Consts.zero]
    exact spaced h0 h1 hr0 hr1
  unfold interp value
  rw [hi', Consts.step]
  exact key _ hr

/-- A lane's result is the reference's entry: in a sorted row, with evenly spaced positions. -/
theorem lane_eq_value {tab : Vec Ideal Table .f32} {q : FVec Ideal Cert.ReferenceIdeal.S64x1000 .f32}
    {p : FVec Ideal Cert.ReferenceIdeal.S1000 .f32} {fb : BitVec 32} {f : Fin 64} (hfb : fb.toNat ≤ 63000) (hrow : RowOf tab q fb f)
    (hq : Monotone fun k : Fin 1000 => (q (ix2 f k) : EReal)) (hp : ∀ k : Fin 1000, p (ix1 k) = (((k.val : ℝ) / 999 : ℝ) : EReal))
    (x : Ideal .f32) {n : ℕ} (hn : between (rank q f x) = n) (h : n < 1000) :
    lane (Named.named (F := Ideal) Cert.KernelIdeal.κ "inv" (φ := .f32) 0x3A833405#32) tab x fb
      = value x (q (ix2 f ⟨n - 1, by omega⟩)) (q (ix2 f ⟨n, h⟩)) (p (ix1 ⟨n - 1, by omega⟩)) (p (ix1 ⟨n, h⟩)) := by
  have hs := slot_between hfb hrow hq x
  have h0 : 0 < n := hn ▸ between_pos _
  rw [hn] at hs
  have hs1 : (IntOp.subi (slot tab x fb) 1#32).toNat = fb.toNat + (n - 1) := by
    have e : (IntOp.subi (slot tab x fb) 1#32).toNat = (4294967296 - 1 + (slot tab x fb).toNat) % 4294967296 := BitVec.toNat_sub _ _
    omega
  unfold lane
  rw [hrow _ ⟨n, h⟩ hs, hrow _ ⟨n - 1, by omega⟩ hs1]
  exact interp_eq_value hs h0 (by omega) _ _ _ _ _ (hp _) (hp _)

end Cert.Quantile

end
-- ==== Proof.Tables.lean ====
/-
  What the precondition says of the tables over the extended reals: each feature's quantiles are sorted, and position
  `k` of the thousand is `k / 999`.
-/
module

public import proofs.«01_k».proof.Proof.Consts
public import Idealize.ShloMosaic.Lib.ValueIdxCore
public import Idealize.ShloMosaic.Lib.ReduceAll
public import Idealize.ShloMosaic.Lib.Pipeline.Value

@[expose] public section

noncomputable section

namespace Cert.Quantile.Tables

open Cert.Pre_quantile_tables Idealize.ShloMosaic Idealize.ShloMosaic.ValueIdx

instance facts : Facts where
  bcast_S_S1000 := by decide
  slices_S64x1000_S64x999_0_0 := by decide
  slices_S64x1000_S64x999_0_1 := by decide
  reducesTo_S64x999_S_d0_1 := by decide
  h_S_ := by decide
  reducesTo_S1000_S_d0 := by decide

instance : Subsingleton S_.Idx := ⟨fun a b => funext fun k => k.elim0⟩

variable {x : FVec Ideal S262144x64 .f32} {q : FVec Ideal S64x1000 .f32} {p : FVec Ideal S1000 .f32}

/-- Both conjuncts hold at every index. -/
theorem both (h : fn (F := Ideal) x q p = fun _ => 1#1) :
    (∀ i : S64x999.Idx, FloatOps.cmpf .ole (extractStridedSlice S64x999 ![0, 0] q Facts.slices_S64x1000_S64x999_0_0 i)
      (extractStridedSlice S64x999 ![0, 1] q Facts.slices_S64x1000_S64x999_0_1 i) = 1#1)
    ∧ ∀ i : S1000.Idx, FloatOps.cmpf .oeq (p i) (Host.divf (sitofp .f32 (iotaInDim S1000 32 0))
      (broadcastInDim S1000 ![] Facts.bcast_S_S1000 (constant (F := Ideal) S_ .f32 0x4479C000#32)) i) = 1#1 := by
  have h0 := congrFun h ix0
  obtain ⟨hs, he⟩ := IntOp.andi_eq_one.1 h0
  exact ⟨fun i => Host.reduce_andi_all _ _ _ _ _ hs i, fun i => Host.reduce_andi_all _ _ _ _ _ he i⟩

/-- Each feature's quantiles are sorted. -/
theorem sorted (h : fn (F := Ideal) x q p = fun _ => 1#1) (f : Fin 64) : Monotone fun k : Fin 1000 => (q (ix2 f k) : EReal) := by
  refine Fin.monotone_iff_le_succ.2 fun k => ?_
  have hk := (both h).1 (ix2 f k)
  rw [extractStridedSlice_apply ![0, 0] q _ _ (ix2 f k.castSucc : S64x1000.Idx) (fun a => by fin_cases a <;> simp),
    extractStridedSlice_apply ![0, 1] q _ _ (ix2 f k.succ : S64x1000.Idx) (fun a => by fin_cases a; exacts [(Nat.zero_add _).symm, Nat.add_comm _ _])] at hk
  by_contra hn
  have hz : FloatOps.cmpf .ole (q (ix2 f k.castSucc)) (q (ix2 f k.succ)) = 0#1 := by
    show BitVec.ofBool (decide ((q (ix2 f k.castSucc) : EReal) ≤ q (ix2 f k.succ))) = 0#1
    rw [decide_eq_false hn]; rfl
  rw [hz] at hk
  exact absurd hk (by decide)

/-- The positions are evenly spaced. -/
theorem even (h : fn (F := Ideal) x q p = fun _ => 1#1) (k : Fin 1000) : p (ix1 k) = (((k.val : ℝ) / 999 : ℝ) : EReal) := by
  have hk := (both h).2 (ix1 k)
  have hd : Host.divf (sitofp .f32 (iotaInDim S1000 32 0))
      (broadcastInDim S1000 ![] Facts.bcast_S_S1000 (constant (F := Ideal) S_ .f32 0x4479C000#32)) (ix1 k)
      = (((k.val : ℝ) / 999 : ℝ) : EReal) := by
    show Ideal.div (((BitVec.ofNat 32 k.val).toInt : ℝ) : EReal) (Ideal.ofBits .f32 0x4479C000#32) = _
    rw [Consts.last, Ideal.div_coe (by norm_num), BitVec.toInt_eq_toNat_of_lt (by rw [BitVec.toNat_ofNat]; omega),
      BitVec.toNat_ofNat, Nat.mod_eq_of_lt (by omega), ← EReal.coe_mul]
    congr 1
    simp [div_eq_mul_inv]
  rw [hd] at hk
  by_contra hn
  have hz : FloatOps.cmpf .oeq (p (ix1 k)) ((((k.val : ℝ) / 999 : ℝ) : EReal) : Ideal .f32) = 0#1 := by
    show BitVec.ofBool (decide ((p (ix1 k) : EReal) = (((k.val : ℝ) / 999 : ℝ) : EReal))) = 0#1
    rw [decide_eq_false hn]; rfl
  rw [hz] at hk
  exact absurd hk (by decide)

end Cert.Quantile.Tables

end
-- ==== Proof.Claims.lean ====
/-
  The claims, each proved. The value claim: on tables the precondition admits, the kernel's result array is the reference's. The kernel reads
  the values and the table flat, so this is where the flat places meet the two arrays' rows and columns.
-/
module

public import proofs.«01_k».proof.Proof.KernelRun
public import proofs.«01_k».proof.Proof.KernelIdealRun
public import proofs.«01_k».proof.Proof.Equation
public import proofs.«01_k».proof.Proof.Tables
public import Idealize.ShloMosaic.Lib.Quiescent

@[expose] public section

noncomputable section

namespace Cert.Quantile

open Idealize.ShloMosaic Idealize.ShloMosaic.ValueIdx Idealize.SL.Sem Cert.Quantile.Reference

/-- The flat table holds feature `f`'s row from place `1000 f` on. -/
theorem flat_row (q : FVec Ideal Cert.ReferenceIdeal.S64x1000 .f32) (h : Cert.ReferenceIdeal.S64x1000.ShapeCasts Table) {fb : BitVec 32}
    {f : Fin 64} (hfb : fb.toNat = 1000 * f.val) : RowOf (shapeCast Table q h) q fb f := fun g k hg =>
  shapeCast_apply _ _ _ _ (by
    rw [Shape.rowMajor_val_two, Shape.rowMajor_val_one]
    show f.val * 1000 + k.val = min g.toNat 63999
    omega)

open Cert.Proof.KernelIdeal in
/-- The kernel's result array is the reference's function of its arguments. -/
theorem outArr_eq (m : (ℓ : Loc Cert.KernelIdeal.nD Cert.KernelIdeal.τ Cert.KernelIdeal.sig) → Buf (Elt Ideal) ℓ) (d : Dev Cert.KernelIdeal.nD)
    (x : FVec Ideal Cert.ReferenceIdeal.S262144x64 .f32) (q : FVec Ideal Cert.ReferenceIdeal.S64x1000 .f32)
    (p : FVec Ideal Cert.ReferenceIdeal.S1000 .f32)
    (hx : m ((SparseCore.T d).loc Cert.KernelIdeal.main_arg0) = x) (hq : m ((SparseCore.T d).loc Cert.KernelIdeal.main_arg1) = q)
    (hpre : Cert.Pre_quantile_tables.fn (F := Ideal) x q p = fun _ => 1#1) :
    outArr (F := Ideal) m d = result x q p := by
  funext i
  have h0 : (i 0).val < 262144 := (i 0).isLt
  have h1 : (i 1).val < 64 := (i 1).isLt
  obtain ⟨n, hn⟩ : ∃ n, n = 64 * (i 0).val + (i 1).val := ⟨_, rfl⟩
  have hlt : n < 16777216 := by omega
  rw [result_apply x q p i rfl (between_lt _)]
  have ho : outArr (F := Ideal) m d i = flatOut (flatQ m d) (flatX m d) (ix1 ⟨n, hlt⟩ : Cert.KernelIdeal.S16777216.Idx) :=
    shapeCast_apply _ _ _ _ (by
      rw [Shape.rowMajor_val_two, Shape.rowMajor_val_one]
      show n = (i 0).val * 64 + (i 1).val
      omega)
  have hX : flatX (F := Ideal) m d (ix1 ⟨n, hlt⟩ : Cert.KernelIdeal.S16777216.Idx) = x i := by
    have e : flatX (F := Ideal) m d = shapeCast Cert.KernelIdeal.S16777216 x Cert.KernelIdeal.Gen.facts.shapeCasts_S262144x64_S16777216 := by
      unfold flatX; rw [hx]
    rw [e]
    exact shapeCast_apply (s := Cert.ReferenceIdeal.S262144x64) x _ _ i (by
      rw [Shape.rowMajor_val_two, Shape.rowMajor_val_one]
      show (i 0).val * 64 + (i 1).val = n
      omega)
  have hw : (rowWord n).toNat = 1000 * (i 1).val := by
    rw [rowWord_toNat]; omega
  have hrow : RowOf (flatQ (F := Ideal) m d) q (rowWord n) (i 1) := by
    unfold flatQ
    rw [hq]
    exact flat_row q _ hw
  rw [ho]
  show lane inv (flatQ (F := Ideal) m d) (flatX (F := Ideal) m d (ix1 ⟨n, hlt⟩ : Cert.KernelIdeal.S16777216.Idx)) (rowWord n) = _
  rw [hX]
  exact lane_eq_value (by omega) hrow (Tables.sorted hpre (i 1)) (Tables.even hpre) _ rfl (between_lt _)

/-! ## The claims -/

/-- The kernel runs, ends with its arguments unchanged, and leaves the machine quiet. -/
theorem frame_kernel : Cert.quiescent_Kernel := fun m ρ _ =>
  (θ_run Cert.Kernel.defs _ _).mono (fun _ h => ⟨fun c => ⟨(h.1 c).1, (h.1 c).2.1, (h.1 c).2.2.1⟩, h.2⟩)
    (Cert.Proof.Kernel.run_main (F := Bits) m ρ)

/-- So does its idealization. -/
theorem frame_ideal : Cert.quiescent_KernelIdeal := fun m ρ _ =>
  (θ_run Cert.KernelIdeal.defs _ _).mono (fun _ h => ⟨fun c => ⟨(h.1 c).1, (h.1 c).2.1, (h.1 c).2.2.1⟩, h.2⟩)
    (Cert.Proof.KernelIdeal.run_main (F := Ideal) m ρ)

/-- So does the reference, which has no semaphores. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealization names one literal, the step, which is the real one over 999. -/
theorem preserves : Cert.preserves_Kernel_KernelIdeal :=
  IdealRules.named_const.statement Cert.KernelIdeal.κ "inv" .f32 0x3A833405#32 ((999⁻¹ : ℝ) : EReal) rfl

/-- The kernel's result array is the reference's. -/
theorem algebraic : Cert.algebraic_KernelIdeal_ReferenceIdeal_pre_quantile_tables := by
  intro m ρ m' ρ' hpre hagree
  refine ⟨fun c => Cert.Proof.KernelIdeal.outArr (F := Ideal) m c, ?_, ?_⟩
  · exact (θ_run Cert.KernelIdeal.defs _ _).mono
      (fun _ h c => ⟨(h.1 c).2.2.2, (h.1 c).1, (h.1 c).2.1, (h.1 c).2.2.1⟩)
      (Cert.Proof.KernelIdeal.run_main (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2⟩ := hagree c
    refine (out_eq m' c).trans ?_
    rw [h0, h1, h2]
    exact (outArr_eq m c _ _ _ rfl rfl (hpre c)).symm

end Cert.Quantile

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Quantile.Tables.facts,
    Cert.Quantile.frame_kernel, Cert.Quantile.frame_ideal, fun m ρ _ => Cert.Quantile.frame_ideal m ρ trivial,
    Cert.Quantile.frame_reference, fun m ρ _ => Cert.Quantile.frame_reference m ρ trivial,
    Cert.Quantile.preserves, Cert.Quantile.algebraic⟩

end Cert.Proof

end
